-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_set_up [hPre_inputs_as_set_up : Cert.Pre_inputs_as_set_up.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_inputs_as_set_up.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_set_up [hPre_inputs_as_set_up : Cert.Pre_inputs_as_set_up.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_inputs_as_set_up.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_as_set_up [hKernelIdeal : Cert.KernelIdeal.Facts] [hPre_inputs_as_set_up : Cert.Pre_inputs_as_set_up.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_set_up m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_as_set_up [hReferenceIdeal : Cert.ReferenceIdeal.Facts] [hPre_inputs_as_set_up : Cert.Pre_inputs_as_set_up.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_set_up m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_inputs_as_set_up [hKernelIdeal : Cert.KernelIdeal.Facts] [hReferenceIdeal : Cert.ReferenceIdeal.Facts] [hPre_inputs_as_set_up : Cert.Pre_inputs_as_set_up.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_set_up m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_inputs_as_set_up : Cert.Pre_inputs_as_set_up.Facts),
    quiescent_Kernel (hKernel := hKernel)
    ∧ quiescent_KernelIdeal (hKernelIdeal := hKernelIdeal)
    ∧ quiescent_KernelIdeal_pre_inputs_as_set_up (hKernelIdeal := hKernelIdeal) (hPre_inputs_as_set_up := hPre_inputs_as_set_up)
    ∧ quiescent_ReferenceIdeal (hReferenceIdeal := hReferenceIdeal)
    ∧ quiescent_ReferenceIdeal_pre_inputs_as_set_up (hReferenceIdeal := hReferenceIdeal) (hPre_inputs_as_set_up := hPre_inputs_as_set_up)
    ∧ preserves_Kernel_KernelIdeal
    ∧ algebraic_KernelIdeal_ReferenceIdeal_pre_inputs_as_set_up (hKernelIdeal := hKernelIdeal) (hReferenceIdeal := hReferenceIdeal) (hPre_inputs_as_set_up := hPre_inputs_as_set_up)
-- ==== Pre_inputs_as_set_up.lean ====
abbrev S16x4096 : Shape := ⟨2, ![16, 4096]⟩
abbrev S16x4096x768 : Shape := ⟨3, ![16, 4096, 768]⟩
abbrev S4500x128 : Shape := ⟨2, ![4500, 128]⟩
abbrev S128x2 : Shape := ⟨2, ![128, 2]⟩
abbrev S128 : Shape := ⟨1, ![128]⟩
abbrev S128x128 : Shape := ⟨2, ![128, 128]⟩
abbrev S256x256 : Shape := ⟨2, ![256, 256]⟩
abbrev S256 : Shape := ⟨1, ![256]⟩
abbrev S1x64 : Shape := ⟨2, ![1, 64]⟩
abbrev S4500x64 : Shape := ⟨2, ![4500, 64]⟩
abbrev S_ : Shape := ⟨0, ![]⟩
abbrev S256x128 : Shape := ⟨2, ![256, 128]⟩

class Facts : Prop where
  bcast_S1x64_S4500x64_0_1 : S1x64.BroadcastsInDim S4500x64 (![0, 1] : Fin 2 → Fin S4500x64.rank)
  slicesBy_S4500x128_S4500x64_0s1_0s2 : S4500x128.SlicesBy (![0, 0] : Fin 2 → Nat) ![1, 2] S4500x64
  slicesBy_S4500x128_S4500x64_0s1_1s2 : S4500x128.SlicesBy (![0, 1] : Fin 2 → Nat) ![1, 2] S4500x64
  bcast_S_S128x2 : S_.BroadcastsInDim S128x2 (![] : Fin 0 → Fin S128x2.rank)
  bcast_S_S128 : S_.BroadcastsInDim S128 (![] : Fin 0 → Fin S128.rank)
  bcast_S_S128x128 : S_.BroadcastsInDim S128x128 (![] : Fin 0 → Fin S128x128.rank)
  slices_S256x256_S256x128_0_128 : S256x256.Slices ![0, 128] S256x128
  bcast_S_S256x128 : S_.BroadcastsInDim S256x128 (![] : Fin 0 → Fin S256x128.rank)

variable [Facts]

noncomputable abbrev lit0 : Fin 64 → BitVec 32 := fun
  | 0 => 0x3F800000#32 | 1 => 0x3F5DAFD7#32 | 2 => 0x3F3FF911#32 | 3 => 0x3F263DE0#32 | 4 => 0x3F0FF59A#32 | 5 => 0x3EF953CD#32 | 6 => 0x3ED7E89A#32 | 7 => 0x3EBAF81A#32
  | 8 => 0x3EA1E89B#32 | 9 => 0x3E8C3503#32 | 10 => 0x3E72D422#32 | 11 => 0x3E5247ED#32 | 12 => 0x3E361886#32 | 13 => 0x3E1DB040#32 | 14 => 0x3E088D77#32 | 15 => 0x3DEC7FD7#32
  | 16 => 0x3DCCCCCC#32 | 17 => 0x3DB15979#32 | 18 => 0x3D99940C#32 | 19 => 0x3D84FE4B#32 | 20 => 0x3D6655C2#32 | 21 => 0x3D47763E#32 | 22 => 0x3D2CBA16#32 | 23 => 0x3D159348#32
  | 24 => 0x3D0186E2#32 | 25 => 0x3CE054D1#32 | 26 => 0x3CC2434F#32 | 27 => 0x3CA83989#32 | 28 => 0x3C91AD3A#32 | 29 => 0x3C7C4D2F#32 | 30 => 0x3C5A7BF2#32 | 31 => 0x3C3D330D#32
  | 32 => 0x3C23D709#32 | 33 => 0x3C0DE12E#32 | 34 => 0x3BF5B9AE#32 | 35 => 0x3BD4CA16#32 | 36 => 0x3BB8449A#32 | 37 => 0x3B9F91CC#32 | 38 => 0x3B8A2E76#32 | 39 => 0x3B6F520D#32
  | 40 => 0x3B4F3E33#32 | 41 => 0x3B33770E#32 | 42 => 0x3B1B690D#32 | 43 => 0x3B06946D#32 | 44 => 0x3AE91529#32 | 45 => 0x3AC9D759#32 | 46 => 0x3AAEC98E#32 | 47 => 0x3A975C0B#32
  | 48 => 0x3A83126E#32 | 49 => 0x3A6301E4#32 | 50 => 0x3A44948A#32 | 51 => 0x3A2A3B43#32 | 52 => 0x3A136A14#32 | 53 => 0x39FF4FAC#32 | 54 => 0x39DD1721#32 | 55 => 0x39BF74D6#32
  | 56 => 0x39A5CB61#32 | 57 => 0x398F9276#32 | 58 => 0x3978A80E#32 | 59 => 0x395753E1#32 | 60 => 0x393A7752#32 | 61 => 0x39217918#32 | 62 => 0x390BD46D#32 | 63 => 0x38F22CDD#32
  | _ => 0#32

def fn_part1 {F : FTy → Type} [FloatOps F] (main_v6 : IVec S4500x64 1) (main_v9 : IVec S4500x64 1) (main_v12 : IVec S128x2 1) (main_v15 : IVec S128 1) (main_v18 : IVec S128x128 1) (main_v19 : FVec F S256x128 .f32) : IVec S4500x64 1 × IVec S4500x64 1 × IVec S128x2 1 × IVec S128 1 × IVec S128x128 1 × IVec S256x128 1 :=
  let main_v20 : FVec F S256x128 .f32 := Host.absf main_v19
  let main_cst_3 : FVec F S_ .f32 := constant S_ .f32 0x7F800000#32
  let main_v21 : FVec F S256x128 .f32 := broadcastInDim S256x128 ![] bcast_S_S256x128 main_cst_3
  let main_v22 : IVec S256x128 1 := cmpf .olt main_v20 main_v21
  (main_v6, main_v9, main_v12, main_v15, main_v18, main_v22)

def fn {F : FTy → Type} [FloatOps F] (main_arg0 : FVec F S16x4096 .f32) (main_arg1 : FVec F S16x4096x768 .f32) (main_arg2 : FVec F S4500x128 .f32) (main_arg3 : FVec F S128x2 .f32) (main_arg4 : FVec F S128 .f32) (main_arg5 : FVec F S128x128 .f32) (main_arg6 : FVec F S128 .f32) (main_arg7 : FVec F S256x256 .f32) (main_arg8 : FVec F S256 .f32) : IVec S4500x64 1 × IVec S4500x64 1 × IVec S128x2 1 × IVec S128 1 × IVec S128x128 1 × IVec S256x128 1 :=
  let main_cst : FVec F S1x64 .f32 := fun i => FloatOps.ofBits .f32 (lit0 (S1x64.rowMajor i))
  let main_v0 : IVec S4500x64 32 := iotaInDim S4500x64 32 0
  let main_v1 : FVec F S4500x64 .f32 := sitofp .f32 main_v0
  let main_v2 : FVec F S4500x64 .f32 := broadcastInDim S4500x64 ![0, 1] bcast_S1x64_S4500x64_0_1 main_cst
  let main_v3 : FVec F S4500x64 .f32 := mulf main_v1 main_v2
  let main_v4 : FVec F S4500x64 .f32 := (Host.slice S4500x64 ![0, 0] ![1, 2] · slicesBy_S4500x128_S4500x64_0s1_0s2) main_arg2
  let main_v5 : FVec F S4500x64 .f32 := Host.sin main_v3
  let main_v6 : IVec S4500x64 1 := cmpf .oeq main_v4 main_v5
  let main_v7 : FVec F S4500x64 .f32 := (Host.slice S4500x64 ![0, 1] ![1, 2] · slicesBy_S4500x128_S4500x64_0s1_1s2) main_arg2
  let main_v8 : FVec F S4500x64 .f32 := Host.cos main_v3
  let main_v9 : IVec S4500x64 1 := cmpf .oeq main_v7 main_v8
  let main_v10 : FVec F S128x2 .f32 := Host.absf main_arg3
  let main_cst_0 : FVec F S_ .f32 := constant S_ .f32 0x7F800000#32
  let main_v11 : FVec F S128x2 .f32 := broadcastInDim S128x2 ![] bcast_S_S128x2 main_cst_0
  let main_v12 : IVec S128x2 1 := cmpf .olt main_v10 main_v11
  let main_v13 : FVec F S128 .f32 := Host.absf main_arg4
  let main_cst_1 : FVec F S_ .f32 := constant S_ .f32 0x7F800000#32
  let main_v14 : FVec F S128 .f32 := broadcastInDim S128 ![] bcast_S_S128 main_cst_1
  let main_v15 : IVec S128 1 := cmpf .olt main_v13 main_v14
  let main_v16 : FVec F S128x128 .f32 := Host.absf main_arg5
  let main_cst_2 : FVec F S_ .f32 := constant S_ .f32 0x7F800000#32
  let main_v17 : FVec F S128x128 .f32 := broadcastInDim S128x128 ![] bcast_S_S128x128 main_cst_2
  let main_v18 : IVec S128x128 1 := cmpf .olt main_v16 main_v17
  let main_v19 : FVec F S256x128 .f32 := (extractStridedSlice S256x128 ![0, 128] · slices_S256x256_S256x128_0_128) main_arg7
  fn_part1 (F := F) main_v6 main_v9 main_v12 main_v15 main_v18 main_v19
-- ==== Kernel.lean ====
abbrev S16x4096 : Shape := ⟨2, ![16, 4096]⟩
abbrev S16x4096x768 : Shape := ⟨3, ![16, 4096, 768]⟩
abbrev S4500x128 : Shape := ⟨2, ![4500, 128]⟩
abbrev S128x2 : Shape := ⟨2, ![128, 2]⟩
abbrev S128 : Shape := ⟨1, ![128]⟩
abbrev S128x128 : Shape := ⟨2, ![128, 128]⟩
abbrev S256x256 : Shape := ⟨2, ![256, 256]⟩
abbrev S256 : Shape := ⟨1, ![256]⟩
abbrev S1x64 : Shape := ⟨2, ![1, 64]⟩
abbrev S16x4096x1 : Shape := ⟨3, ![16, 4096, 1]⟩
abbrev S1x512x768 : Shape := ⟨3, ![1, 512, 768]⟩
abbrev S1x512x1 : Shape := ⟨3, ![1, 512, 1]⟩
abbrev S1x768 : Shape := ⟨2, ![1, 768]⟩
abbrev S512x768 : Shape := ⟨2, ![512, 768]⟩
abbrev S511x768 : Shape := ⟨2, ![511, 768]⟩
abbrev S512 : Shape := ⟨1, ![512]⟩
abbrev S512x1 : Shape := ⟨2, ![512, 1]⟩
abbrev S256x128 : Shape := ⟨2, ![256, 128]⟩
abbrev S256x64 : Shape := ⟨2, ![256, 64]⟩
abbrev S64x256 : Shape := ⟨2, ![64, 256]⟩
abbrev S128x256 : Shape := ⟨2, ![128, 256]⟩
abbrev S128x1 : Shape := ⟨2, ![128, 1]⟩
abbrev S1x128 : Shape := ⟨2, ![1, 128]⟩
abbrev S1x256 : Shape := ⟨2, ![1, 256]⟩
abbrev S16x4096x256 : Shape := ⟨3, ![16, 4096, 256]⟩
abbrev S1x4096x1 : Shape := ⟨3, ![1, 4096, 1]⟩
abbrev S1x4096x256 : Shape := ⟨3, ![1, 4096, 256]⟩
abbrev S4096x1 : Shape := ⟨2, ![4096, 1]⟩
abbrev S1x1 : Shape := ⟨2, ![1, 1]⟩
abbrev S4095x1 : Shape := ⟨2, ![4095, 1]⟩
abbrev S2x1 : Shape := ⟨2, ![2, 1]⟩
abbrev S4094x1 : Shape := ⟨2, ![4094, 1]⟩
abbrev S4x1 : Shape := ⟨2, ![4, 1]⟩
abbrev S4092x1 : Shape := ⟨2, ![4092, 1]⟩
abbrev S8x1 : Shape := ⟨2, ![8, 1]⟩
abbrev S4088x1 : Shape := ⟨2, ![4088, 1]⟩
abbrev S16x1 : Shape := ⟨2, ![16, 1]⟩
abbrev S4080x1 : Shape := ⟨2, ![4080, 1]⟩
abbrev S32x1 : Shape := ⟨2, ![32, 1]⟩
abbrev S4064x1 : Shape := ⟨2, ![4064, 1]⟩
abbrev S64x1 : Shape := ⟨2, ![64, 1]⟩
abbrev S4032x1 : Shape := ⟨2, ![4032, 1]⟩
abbrev S3968x1 : Shape := ⟨2, ![3968, 1]⟩
abbrev S256x1 : Shape := ⟨2, ![256, 1]⟩
abbrev S3840x1 : Shape := ⟨2, ![3840, 1]⟩
abbrev S3584x1 : Shape := ⟨2, ![3584, 1]⟩
abbrev S1024x1 : Shape := ⟨2, ![1024, 1]⟩
abbrev S3072x1 : Shape := ⟨2, ![3072, 1]⟩
abbrev S2048x1 : Shape := ⟨2, ![2048, 1]⟩
abbrev S4096x128 : Shape := ⟨2, ![4096, 128]⟩
abbrev S4096x64 : Shape := ⟨2, ![4096, 64]⟩
abbrev S4096x256 : Shape := ⟨2, ![4096, 256]⟩

abbrev nBuf : Space → Nat
  | .hbm => 30
  | .vmem => 21
  | .smem => 0
  | _ => 0

abbrev bufTy : (tb : Table) → Fin (tcTables nBuf tb) → BufTy
  | .hbm, ⟨0, _⟩ => ⟨S16x4096, .f32⟩
  | .hbm, ⟨1, _⟩ => ⟨S16x4096x768, .f32⟩
  | .hbm, ⟨2, _⟩ => ⟨S4500x128, .f32⟩
  | .hbm, ⟨3, _⟩ => ⟨S128x2, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S1x64, .f32⟩
  | .hbm, ⟨10, _⟩ => ⟨S16x4096x1, .i32⟩
  | .hbm, ⟨11, _⟩ => ⟨S256x128, .f32⟩
  | .hbm, ⟨12, _⟩ => ⟨S256x64, .f32⟩
  | .hbm, ⟨13, _⟩ => ⟨S64x256, .f32⟩
  | .hbm, ⟨14, _⟩ => ⟨S256x64, .f32⟩
  | .hbm, ⟨15, _⟩ => ⟨S64x256, .f32⟩
  | .hbm, ⟨16, _⟩ => ⟨S128x128, .f32⟩
  | .hbm, ⟨17, _⟩ => ⟨S256x128, .f32⟩
  | .hbm, ⟨18, _⟩ => ⟨S128x256, .f32⟩
  | .hbm, ⟨19, _⟩ => ⟨S128x1, .f32⟩
  | .hbm, ⟨20, _⟩ => ⟨S128, .f32⟩
  | .hbm, ⟨21, _⟩ => ⟨S1x128, .f32⟩
  | .hbm, ⟨22, _⟩ => ⟨S128x1, .f32⟩
  | .hbm, ⟨23, _⟩ => ⟨S128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x256, .f32⟩
  | .hbm, ⟨28, _⟩ => ⟨S16x4096x1, .f32⟩
  | .hbm, ⟨29, _⟩ => ⟨S16x4096x256, .f32⟩
  | .local _ .vmem, ⟨0, _⟩ => ⟨S1x512x768, .f32⟩
  | .local _ .vmem, ⟨1, _⟩ => ⟨S1x512x768, .f32⟩
  | .local _ .vmem, ⟨2, _⟩ => ⟨S1x512x1, .i32⟩
  | .local _ .vmem, ⟨3, _⟩ => ⟨S1x512x1, .i32⟩
  | .local _ .vmem, ⟨4, _⟩ => ⟨S1x768, .f32⟩
  | .local _ .vmem, ⟨5, _⟩ => ⟨S1x4096x1, .i32⟩
  | .local _ .vmem, ⟨6, _⟩ => ⟨S1x4096x1, .i32⟩
  | .local _ .vmem, ⟨7, _⟩ => ⟨S1x4096x1, .f32⟩
  | .local _ .vmem, ⟨8, _⟩ => ⟨S1x4096x1, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x64, .f32⟩
  | .local _ .vmem, ⟨13, _⟩ => ⟨S64x256, .f32⟩
  | .local _ .vmem, ⟨14, _⟩ => ⟨S64x256, .f32⟩
  | .local _ .vmem, ⟨15, _⟩ => ⟨S128x128, .f32⟩
  | .local _ .vmem, ⟨16, _⟩ => ⟨S128x256, .f32⟩
  | .local _ .vmem, ⟨17, _⟩ => ⟨S1x128, .f32⟩
  | .local _ .vmem, ⟨18, _⟩ => ⟨S1x256, .f32⟩
  | .local _ .vmem, ⟨19, _⟩ => ⟨S1x4096x256, .f32⟩
  | .local _ .vmem, ⟨20, _⟩ => ⟨S1x4096x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S1x4096x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S16x4096 : Shape := ⟨2, ![16, 4096]⟩
abbrev S16x4096x768 : Shape := ⟨3, ![16, 4096, 768]⟩
abbrev S4500x128 : Shape := ⟨2, ![4500, 128]⟩
abbrev S128x2 : Shape := ⟨2, ![128, 2]⟩
abbrev S128 : Shape := ⟨1, ![128]⟩
abbrev S128x128 : Shape := ⟨2, ![128, 128]⟩
abbrev S256x256 : Shape := ⟨2, ![256, 256]⟩
abbrev S256 : Shape := ⟨1, ![256]⟩
abbrev S1 : Shape := ⟨1, ![1]⟩
abbrev S_ : Shape := ⟨0, ![]⟩
abbrev S16x4096x1 : Shape := ⟨3, ![16, 4096, 1]⟩
abbrev S1x1x1 : Shape := ⟨3, ![1, 1, 1]⟩
abbrev S16x4096x128 : Shape := ⟨3, ![16, 4096, 128]⟩
abbrev S4096 : Shape := ⟨1, ![4096]⟩
abbrev S16x4095x768 : Shape := ⟨3, ![16, 4095, 768]⟩
abbrev S16x4095 : Shape := ⟨2, ![16, 4095]⟩
abbrev S4095 : Shape := ⟨1, ![4095]⟩
abbrev S1x4095 : Shape := ⟨2, ![1, 4095]⟩
abbrev S16x1 : Shape := ⟨2, ![16, 1]⟩
abbrev S1x4096 : Shape := ⟨2, ![1, 4096]⟩
abbrev S16x4096x2 : Shape := ⟨3, ![16, 4096, 2]⟩
abbrev S2x128 : Shape := ⟨2, ![2, 128]⟩
abbrev S1x1x128 : Shape := ⟨3, ![1, 1, 128]⟩
abbrev S16x4096x256 : Shape := ⟨3, ![16, 4096, 256]⟩
abbrev S1x1x256 : Shape := ⟨3, ![1, 1, 256]⟩

abbrev nBuf : Space → Nat
  | .hbm => 138
  | .vmem => 0
  | .smem => 0
  | _ => 0

abbrev hbmTy0_0 (i : Nat) : BufTy := match i % 128 with
  | 0 => ⟨S16x4096, .f32⟩
  | 1 => ⟨S16x4096x768, .f32⟩
  | 2 => ⟨S4500x128, .f32⟩
  | 3 => ⟨S128x2, .f32⟩
  | 4 => ⟨S128, .f32⟩
  | 5 => ⟨S128x128, .f32⟩
  | 6 => ⟨S128, .f32⟩
  | 7 => ⟨S256x256, .f32⟩
  | 8 => ⟨S256, .f32⟩
  | 9 => ⟨S1, .i32⟩
  | 10 => ⟨S_, .f32⟩
  | 11 => ⟨S16x4096, .f32⟩
  | 12 => ⟨S16x4096, .f32⟩
  | 13 => ⟨S16x4096, .i32⟩
  | 14 => ⟨S_, .i32⟩
  | 15 => ⟨S_, .i32⟩
  | 16 => ⟨S_, .i32⟩
  | 17 => ⟨S16x4096, .i32⟩
  | 18 => ⟨S16x4096, .i32⟩
  | 19 => ⟨S_, .i32⟩
  | 20 => ⟨S16x4096, .i32⟩
  | 21 => ⟨S16x4096, .i32⟩
  | 22 => ⟨S_, .i32⟩
  | 23 => ⟨S16x4096, .i32⟩
  | 24 => ⟨S16x4096, .i1⟩
  | 25 => ⟨S_, .i32⟩
  | 26 => ⟨S16x4096, .i32⟩
  | 27 => ⟨S16x4096, .i32⟩
  | 28 => ⟨S16x4096, .i32⟩
  | 29 => ⟨S16x4096x1, .i32⟩
  | 30 => ⟨S1, .i32⟩
  | 31 => ⟨S_, .i32⟩
  | 32 => ⟨S16x4096x1, .i32⟩
  | 33 => ⟨S16x4096x1, .i1⟩
  | 34 => ⟨S1x1x1, .i32⟩
  | 35 => ⟨S16x4096x1, .i32⟩
  | 36 => ⟨S16x4096x1, .i1⟩
  | 37 => ⟨S16x4096x1, .i1⟩
  | 38 => ⟨S_, .i1⟩
  | 39 => ⟨S16x4096, .i1⟩
  | 40 => ⟨S16x4096x128, .f32⟩
  | 41 => ⟨S16x4096x128, .i1⟩
  | 42 => ⟨S_, .f32⟩
  | 43 => ⟨S16x4096x128, .f32⟩
  | 44 => ⟨S16x4096x128, .f32⟩
  | 45 => ⟨S4096, .i32⟩
  | 46 => ⟨S16x4095x768, .f32⟩
  | 47 => ⟨S16x4095x768, .f32⟩
  | 48 => ⟨S16x4095x768, .f32⟩
  | 49 => ⟨S_, .f32⟩
  | 50 => ⟨S16x4095, .f32⟩
  | 51 => ⟨S_, .i1⟩
  | 52 => ⟨S4096, .i1⟩
  | 53 => ⟨S_, .i32⟩
  | 54 => ⟨S1, .i32⟩
  | 55 => ⟨S_, .i1⟩
  | 56 => ⟨S4096, .i1⟩
  | 57 => ⟨S_, .i32⟩
  | 58 => ⟨S1, .i32⟩
  | 59 => ⟨S_, .i1⟩
  | 60 => ⟨S4096, .i1⟩
  | 61 => ⟨S4095, .i1⟩
  | 62 => ⟨S_, .f32⟩
  | 63 => ⟨S16x4095, .f32⟩
  | 64 => ⟨S16x4095, .i1⟩
  | 65 => ⟨S1x4095, .i1⟩
  | 66 => ⟨S16x4095, .i1⟩
  | 67 => ⟨S16x4095, .i1⟩
  | 68 => ⟨S_, .i32⟩
  | 69 => ⟨S1, .i32⟩
  | 70 => ⟨S16x4096, .i1⟩
  | 71 => ⟨S16x4096, .i1⟩
  | 72 => ⟨S_, .i32⟩
  | 73 => ⟨S_, .i32⟩
  | 74 => ⟨S4096, .i32⟩
  | 75 => ⟨S16x4096, .i32⟩
  | 76 => ⟨S16x4096, .i32⟩
  | 77 => ⟨S16x4096, .i32⟩
  | 78 => ⟨S_, .i32⟩
  | 79 => ⟨S_, .i32⟩
  | 80 => ⟨S16x4096, .i32⟩
  | 81 => ⟨S_, .i32⟩
  | 82 => ⟨S_, .i32⟩
  | 83 => ⟨S4096, .i32⟩
  | 84 => ⟨S16x4096, .i32⟩
  | 85 => ⟨S16x4096, .i32⟩
  | 86 => ⟨S16x4096, .i32⟩
  | 87 => ⟨S16x4096, .i32⟩
  | 88 => ⟨S_, .i32⟩
  | 89 => ⟨S_, .i32⟩
  | 90 => ⟨S16x4096, .i32⟩
  | 91 => ⟨S16x4096, .i32⟩
  | 92 => ⟨S16x4095, .i32⟩
  | 93 => ⟨S16x1, .i32⟩
  | 94 => ⟨S16x4096, .i32⟩
  | 95 => ⟨S16x4096, .i32⟩
  | 96 => ⟨S_, .i32⟩
  | 97 => ⟨S16x4096, .i32⟩
  | 98 => ⟨S16x4096, .i32⟩
  | 99 => ⟨S16x4096, .f32⟩
  | 100 => ⟨S1x4096, .i32⟩
  | 101 => ⟨S16x4096, .i32⟩
  | 102 => ⟨S16x4096, .i32⟩
  | 103 => ⟨S16x4096, .f32⟩
  | 104 => ⟨S16x4096, .f32⟩
  | 105 => ⟨S1x4096, .i32⟩
  | 106 => ⟨S16x4096, .i32⟩
  | 107 => ⟨S16x4096, .i32⟩
  | 108 => ⟨S16x4096, .f32⟩
  | 109 => ⟨S16x4096, .f32⟩
  | 110 => ⟨S16x4096x1, .f32⟩
  | 111 => ⟨S16x4096x1, .f32⟩
  | 112 => ⟨S16x4096x2, .f32⟩
  | 113 => ⟨S2x128, .f32⟩
  | 114 => ⟨S16x4096x128, .f32⟩
  | 115 => ⟨S1x1x128, .f32⟩
  | 116 => ⟨S16x4096x128, .f32⟩
  | 117 => ⟨S16x4096x128, .f32⟩
  | 118 => ⟨S_, .f32⟩
  | 119 => ⟨S16x4096x128, .f32⟩
  | 120 => ⟨S16x4096x128, .f32⟩
  | 121 => ⟨S16x4096x128, .f32⟩
  | 122 => ⟨S_, .f32⟩
  | 123 => ⟨S16x4096x128, .f32⟩
  | 124 => ⟨S16x4096x128, .f32⟩
  | 125 => ⟨S16x4096x128, .f32⟩
  | 126 => ⟨S16x4096x128, .f32⟩
  | 127 => ⟨S128x128, .f32⟩
  | _ => ⟨S16x4096, .f32⟩

abbrev hbmTy0_1 (i : Nat) : BufTy := match i % 128 with
  | 0 => ⟨S16x4096x128, .f32⟩
  | 1 => ⟨S1x1x128, .f32⟩
  | 2 => ⟨S16x4096x128, .f32⟩
  | 3 => ⟨S16x4096x128, .f32⟩
  | 4 => ⟨S16x4096x256, .f32⟩
  | 5 => ⟨S256x256, .f32⟩
  | 6 => ⟨S16x4096x256, .f32⟩
  | 7 => ⟨S1x1x256, .f32⟩
  | 8 => ⟨S16x4096x256, .f32⟩
  | 9 => ⟨S16x4096x256, .f32⟩
  | _ => ⟨S16x4096, .f32⟩

abbrev hbmTy (i : Nat) : BufTy := match i / 128 with
  | 0 => hbmTy0_0 i
  | 1 => hbmTy0_1 i
  | _ => ⟨S16x4096, .f32⟩

abbrev bufTy : (tb : Table) → Fin (tcTables nBuf tb) → BufTy
  | .hbm, ⟨i, _⟩ => hbmTy i
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v3 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_2 : Ref sig .tc := ⟨.hbm, 49, rfl⟩
abbrev main_v9 : Ref sig .tc := ⟨.hbm, 50, rfl⟩
abbrev main_c_3 : Ref sig .tc := ⟨.hbm, 51, rfl⟩
abbrev main_v10 : Ref sig .tc := ⟨.hbm, 52, rfl⟩
abbrev main_c_4 : Ref sig .tc := ⟨.hbm, 53, rfl⟩
abbrev main_v11 : Ref sig .tc := ⟨.hbm, 54, rfl⟩
abbrev main_c_5 : Ref sig .tc := ⟨.hbm, 55, rfl⟩
abbrev main_v12 : Ref sig .tc := ⟨.hbm, 56, rfl⟩
abbrev main_c_6 : Ref sig .tc := ⟨.hbm, 57, rfl⟩
abbrev main_v13 : Ref sig .tc := ⟨.hbm, 58, rfl⟩
abbrev main_c_7 : Ref sig .tc := ⟨.hbm, 59, rfl⟩
abbrev main_v14 : Ref sig .tc := ⟨.hbm, 60, rfl⟩
abbrev main_v15 : Ref sig .tc := ⟨.hbm, 61, rfl⟩
abbrev main_cst_8 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_c_9 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_c_10 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_v24 : Ref sig .tc := ⟨.hbm, 77, rfl⟩
abbrev main_call3_c : Ref sig .tc := ⟨.hbm, 78, rfl⟩
abbrev main_call3_v0 : Ref sig .tc := ⟨.hbm, 79, rfl⟩
abbrev main_v25 : Ref sig .tc := ⟨.hbm, 80, rfl⟩
abbrev main_c_11 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_v26 : Ref sig .tc := ⟨.hbm, 86, rfl⟩
abbrev main_v27 : Ref sig .tc := ⟨.hbm, 87, rfl⟩
abbrev main_call5_c : Ref sig .tc := ⟨.hbm, 88, rfl⟩
abbrev main_call5_v0 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_c_12 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_cst_13 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_14 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩

abbrev nD : Nat := 1
abbrev τ : Topo := Topo.v7x

variable {F : FTy → Type} [FloatOps F]
-- ==== Proof.KernelIdeal.Flags.lean ====
/- The first region of `KernelIdeal`'s @main, the scene-boundary flags. The kernel walks a grid of 16 × 8 points; at a point
   it reads one block of 512 frames and the row that the point before it left in the scratch buffer, stores the
   block's flags, and leaves the block's last frame in the scratch for the next point. Nothing initialises the scratch
   before the first point, so what the flags hold is stated up to the row that the first point finds there:
   `flagsDat V v₀ c` are the proof data at that row `v₀`, and `flags_exact` says that whatever the region leaves in
   its arrays is what they name for SOME `v₀`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI PCS
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

/-- The certificate's ghost algebra: one copy of the pipeline library's per region. -/
abbrev UU : Type := UR sig nD τ × UR sig nD τ

local notation "𝕄" => MT nD τ sig Unit (Elt F) ℕ UU ℕ

variable (V : (c : Dev nD) → (b : Ref sig .tc) → Buf (Elt F) ((c : Thread nD τ).loc b))

/-- Window `w`'s block at point `t` of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x512x768 := Rect.unit (s := S1x512x768) ![0, 0, 0] S1x512x768.size inb_S1x512x768_S1x512x768_0_0_0
abbrev r0_1 : Rect S1x512x1 := Rect.unit (s := S1x512x1) ![0, 0, 0] S1x512x1.size inb_S1x512x1_S1x512x1_0_0_0
abbrev r0_2 : Rect S1x768 := Rect.unit (s := S1x768) ![0, 0] S1x768.size inb_S1x768_S1x768_0_0

/-- The flags a point stores, from its block and the row it finds. -/
def flagsOut (i : grid0.Coords) (x : Vec F S1x512x768 .f32) (v : Vec F S1x768 .f32) : Vec F S1x512x1 .i32 :=
  View.canon [⟨r0_1, k0_pay2 i (View.ld x r0_0) (View.ld v r0_2)⟩]

/-- The row a point leaves in the scratch: its block's last frame. -/
def lastRow (x : Vec F S1x512x768 .f32) : Vec F S1x768 .f32 :=
  View.canon [⟨r0_2, k0_pay3 (View.ld x r0_0)⟩]

theorem cover0_1 (p0 : Vec F S1x512x1 .i32) (y : S1x512x1.Idx) :
    ∃ pc ∈ ([⟨r0_1, p0⟩] : List (View.Piece (Elt F) S1x512x1 .i32)), y ∈ pc.1.set :=
  View.cover_of_tiled [⟨r0_1, p0⟩] S1x512x1.size (by rfl) y

theorem cover0_2 (p0 : Vec F S1x768 .f32) (y : S1x768.Idx) :
    ∃ pc ∈ ([⟨r0_2, p0⟩] : List (View.Piece (Elt F) S1x768 .f32)), y ∈ pc.1.set :=
  View.cover_of_tiled [⟨r0_2, p0⟩] S1x768.size (by rfl) y

set_option maxHeartbeats 1000000 in
/-- The body on whole buffers: the block at `x`, the flags' buffer at anything, the scratch at `v`; it leaves the flags
    of `x` and `v`, and `x`'s last frame in the scratch. -/
theorem sound_kernel0 (c : Dev nD) (E : Set ℕ) (i : grid0.Coords) (arg2 : Memref sig .tc .vmem S1x512x768 .f32) (harg2 : arg2.IsWhole)
    (arg3 : Memref sig .tc .vmem S1x512x1 .i32) (harg3 : arg3.IsWhole) (arg4 : Memref sig .tc .vmem S1x768 .f32) (harg4 : arg4.IsWhole)
    (x : Vec F S1x512x768 .f32) (v : Vec F S1x768 .f32) (K : PUnit → sProp 𝕄) :
    iprop(owns (c : Thread nD τ) arg2 fullShare x ∗ (∃ d, owns (c : Thread nD τ) arg3 fullShare d) ∗ owns (c : Thread nD τ) arg4 fullShare v
        ∗ (iprop(owns (c : Thread nD τ) arg2 fullShare x ∗ owns (c : Thread nD τ) arg3 fullShare (flagsOut i x v)
            ∗ owns (c : Thread nD τ) arg4 fullShare (lastRow x)) -∗ K ⟨⟩))
      ⊢ wp frame (wpE (defs₀ (F := F)) Variants.none c none) E (cc0__boundary_kernel i arg2 harg2 arg3 harg3 arg4 harg4) K := by
  simp only [cc0__boundary_kernel_eq_skeleton]; unfold cc0__boundary_kernel_skel
  unfold owns
  iintro ⟨⟨%f0, %hf0, H0⟩, ⟨%d1, %f1, -, H1⟩, ⟨%f2, %hf2, H2⟩, Hk⟩
  subst hf0; subst hf2
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- Before point `t` the scratch may hold `v`: after the first point it is the last frame of the block before. -/
def CarryOk (c : Dev nD) (t : Fin (cfg0.N + 1)) (v : Vec F S1x768 .f32) : Prop :=
  ∀ s : Fin cfg0.N, s.val + 1 = t.val → v = lastRow (iblk0 V c 0 s)

/-- The row point `t` finds in the scratch when the first point finds `v₀`. -/
def carry (v₀ : Vec F S1x768 .f32) (c : Dev nD) (t : Fin cfg0.N) : Vec F S1x768 .f32 :=
  if h : 0 < t.val then lastRow (iblk0 V c 0 ⟨t.val - 1, by have := t.isLt; omega⟩) else v₀

theorem CarryOk.eq_carry {c : Dev nD} {t : Fin cfg0.N} {v v₀ : Vec F S1x768 .f32} (h : CarryOk V c t.castSucc v)
    (h₀ : t.val = 0 → v = v₀) : v = carry V v₀ c t := by
  unfold carry
  by_cases ht : 0 < t.val
  · rw [dif_pos ht]
    exact h ⟨t.val - 1, by have := t.isLt; omega⟩ (by show t.val - 1 + 1 = t.val; omega)
  · rw [dif_neg ht]
    exact h₀ (by omega)

/-- What the region keeps beside its windows before point `t`: the scratch at a row it may then hold, every other
    scoped buffer and the generator register at anything. -/
def Φ0 (c : Dev nD) (t : Fin (cfg0.N + 1)) : sProp 𝕄 :=
  iprop((∃ v : Vec F S1x768 .f32, ⌜CarryOk V c t v⌝ ∗ owns (c : Thread nD τ) (Memref.whole cc0_scratch0) fullShare v)
    ∗ Pipeline.scopedRestBut spec0 c [cc0_scratch0] ∗ ∃ r, prngReg c r)

/-- The region's proof data when the first point finds `v₀` in the scratch. -/
def flagsDat (v₀ : Vec F S1x768 .f32) (c : Dev nD) : Dat τ (Elt F) Unit ℕ UU ℕ cfg0 c where
  A w := V c (Pipeline.arrRef spec0 w)
  after w t := match w with
    | ⟨0, _⟩ => iblk0 V c 0 t
    | ⟨1, _⟩ => flagsOut (grid0.coords t) (iblk0 V c 0 t) (carry V v₀ c t)
  Φ t := Φ0 V c t
  q _ := fullShare
  owed _ := 0

theorem flagsDat_A (v₀ : Vec F S1x768 .f32) (c : Dev nD) (w : Fin cfg0.W) : (flagsDat V v₀ c).A w = V c (Pipeline.arrRef spec0 w) := by
  dsimp only [flagsDat]
theorem flagsDat_after0 (v₀ : Vec F S1x768 .f32) (c : Dev nD) (t : Fin cfg0.N) : (flagsDat V v₀ c).after 0 t = iblk0 V c 0 t := by
  dsimp only [flagsDat]
theorem flagsDat_after1 (v₀ : Vec F S1x768 .f32) (c : Dev nD) (t : Fin cfg0.N) :
    (flagsDat V v₀ c).after 1 t = flagsOut (grid0.coords t) (iblk0 V c 0 t) (carry V v₀ c t) := by
  dsimp only [flagsDat]

theorem flagsDat_before0 (v₀ : Vec F S1x768 .f32) (c : Dev nD) (t : Fin cfg0.N) (d) : (flagsDat V v₀ c).before 0 t d = iblk0 V c 0 t :=
  ((flagsDat V v₀ c).before_in_eq_fetched 0 rfl (fun _ => rfl) (fun _ _ _ => rfl)
      (fun t => by rw [flagsDat_after0]; unfold Dat.blockOf iblk0; rw [flagsDat_A]; try rfl) t d).trans
    (by unfold Dat.fetched Dat.blockOf iblk0; rw [flagsDat_A]; try rfl)

/-- The flags' window alone is held to a relation. -/
def isFlags : Fin cfg0.W → Bool
  | ⟨0, _⟩ => false
  | ⟨1, _⟩ => true

/-- What the body may leave at point `t`: the flags of the block and of a row the scratch may then hold. -/
def FlagsRel (c : Dev nD) (w : Fin cfg0.W) (t : Fin cfg0.N) : ((cfg0.win w).block.Idx → Elt F (cfg0.win w).elt) → Prop :=
  match w with
  | ⟨0, _⟩ => fun _ => True
  | ⟨1, _⟩ => fun X => ∃ v, CarryOk V c t.castSucc v ∧ X = flagsOut (grid0.coords t) (iblk0 V c 0 t) v

/-- The region's relational proof data. -/
abbrev flagsRDat (v₀ : Vec F S1x768 .f32) (c : Dev nD) : RDat τ (Elt F) Unit ℕ UU ℕ cfg0 c :=
  (flagsDat V v₀ c).toRRel isFlags (FlagsRel V c)

/-- The body at any point. -/
theorem sound_body0 (v₀ : Vec F S1x768 .f32) (c : Dev nD) (t : Fin cfg0.N) :
    iprop((flagsDat V v₀ c).Φ t.castSucc ∗ (flagsDat V v₀ c).owesAt () t.castSucc
        ∗ (∃ d, owns (c : Thread nD τ) (st0_0 t) fullShare ((flagsDat V v₀ c).before 0 t d))
        ∗ (∃ Y, ⌜(flagsRDat V v₀ c).Finds 1 t Y⌝ ∗ owns (c : Thread nD τ) (st0_1 t) fullShare Y))
      ⊢ wp frame (wpE (defs₀ (F := F)) Variants.none c none) Set.univ (bodyAt0 t) (fun _ =>
        iprop((flagsDat V v₀ c).Φ t.succ ∗ (flagsDat V v₀ c).owesAt () t.succ
          ∗ owns (c : Thread nD τ) (st0_0 t) fullShare ((flagsDat V v₀ c).after 0 t)
          ∗ (∃ X, ⌜FlagsRel V c 1 t X⌝ ∗ owns (c : Thread nD τ) (st0_1 t) fullShare X))) := by
  unfold bodyAt0
  simp only [flagsDat_before0]
  rw [show (flagsDat V v₀ c).Φ t.succ = Φ0 V c t.succ from rfl, show (flagsDat V v₀ c).Φ t.castSucc = Φ0 V c t.castSucc from rfl,
    show (flagsDat V v₀ c).owesAt () t.succ = (flagsDat V v₀ c).owesAt () t.castSucc from rfl, flagsDat_after0]
  unfold Φ0
  iintro ⟨⟨⟨%v, %hv, Hs⟩, HΦ⟩, Ho, ⟨%d0, H0⟩, ⟨%d1, -, H1⟩⟩
  iapply (sound_kernel0 c Set.univ (grid0.coords t) _ _ _ _ _ _ (iblk0 V c 0 t) v _)
  isplitl [H0]; · iexact H0
  isplitl [H1]; · iexists _; iexact H1
  isplitl [Hs]; · iexact Hs
  iintro ⟨H0, H1, Hs⟩
  isplitl [HΦ Hs]
  · isplitl [Hs]
    · iexists _; isplitr
      swap; · iexact Hs
      ipureintro
      intro s hs
      rw [show s = t from Fin.ext (by have : s.val + 1 = t.val + 1 := hs; omega)]
    · iexact HΦ
  isplitl [Ho]; · iexact Ho
  isplitl [H0]; · iexact H0
  iexists _; isplitr
  swap; · iexact H1
  ipureintro
  exact ⟨v, hv, rfl⟩

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (v₀ : Vec F S1x768 .f32) (c : Dev nD) :
    (flagsRDat V v₀ c).BodyObligation (defs₀ (F := F)) Variants.none () Set.univ :=
  BodyObligationRel.toRRel _ fun t => by
    rw [bigSep_W0, bigSep_W0, defs₀_row0]
    exact triple_restated (sound_body0 V v₀ c t) rfl .rfl fun _ => .rfl

theorem cfg0_N_pos : 0 < cfg0.N := by decide

/-- Whatever the region leaves in its arrays is what `flagsDat V v c` names, for some row `v` found by the first point. -/
theorem flags_exact (v₀ : Vec F S1x768 .f32) (c : Dev nD)
    {G : (w : Fin cfg0.W) → Buf (Elt F) ((cfg0.win w).arr.view.loc (c.tc : Thread nD τ))}
    (hG : ∀ w, (flagsRDat V v₀ c).ArrAt w cfg0.N (G w)) :
    ∃ v : Vec F S1x768 .f32, ∀ w, G w = (flagsDat V v c).arrAt w cfg0.N := by
  obtain ⟨X, hX, hE⟩ := (hG 1).exists_exact
  have hR : ∀ u : Fin cfg0.N, (cfg0.win 1).flush u = true →
      ∃ v, CarryOk V c u.castSucc v ∧ X u = flagsOut (grid0.coords u) (iblk0 V c 0 u) v := fun u hu =>
    (flagsDat V v₀ c).toRRel_leaves (fgt := isFlags) (Rl := FlagsRel V c) (w := 1) rfl (hX u u.isLt hu)
  obtain ⟨v, hv⟩ : ∃ v : Vec F S1x768 .f32, ∀ u : Fin cfg0.N, u.val = 0 → (cfg0.win 1).flush u = true →
      X u = flagsOut (grid0.coords u) (iblk0 V c 0 u) v := by
    by_cases h0 : (cfg0.win 1).flush ⟨0, cfg0_N_pos⟩ = true
    · obtain ⟨v, -, hv⟩ := hR ⟨0, cfg0_N_pos⟩ h0
      exact ⟨v, fun u hu _ => by rw [show u = ⟨0, cfg0_N_pos⟩ from Fin.ext hu]; exact hv⟩
    · exact ⟨v₀, fun u hu hf => absurd (show u = ⟨0, cfg0_N_pos⟩ from Fin.ext hu) fun e => h0 (e ▸ hf)⟩
  refine ⟨v, fun w => ?_⟩
  match w with
  | ⟨0, _⟩ =>
    obtain ⟨_, -, hE0⟩ := (hG 0).exists_exact
    exact (hE0 (flagsDat V v c).after fun u _ hu => absurd hu (by simp [Window.flush, show (cfg0.win 0).isOut = false from rfl])).trans rfl
  | ⟨1, _⟩ =>
    refine (hE (flagsDat V v c).after fun u _ hu => ?_).trans rfl
    rw [flagsDat_after1]
    obtain ⟨v', hv', e⟩ := hR u hu
    by_cases h0 : u.val = 0
    · rw [hv u h0 hu]
      unfold carry; rw [dif_neg (by omega)]
    · rw [e, hv'.eq_carry V (v₀ := v) fun h => absurd h h0]

end Cert.KernelIdeal.Run

end
-- ==== Proof.KernelIdeal.Embed.lean ====
/- The second region of `KernelIdeal`'s @main, the embedding. The kernel walks a grid of 16 points, one batch row of 4096 frames
   each: from the row's flags it finds every frame's scene, from the scene two features, and stores the row's result
   block. `dat1 V c` are the region's proof data from the buffer contents `V` it is entered with: at point `t` the result
   window's buffer holds `out1_12` of the twelve input blocks. -/
module

public import proofs.«01_k».proof.Proof.KernelIdeal.Flags

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI PCS
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ UU ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ UU ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ UU ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ UU ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ UU ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ UU ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ UU ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x4096x1 := Rect.unit (s := S1x4096x1) ![0, 0, 0] S1x4096x1.size inb_S1x4096x1_S1x4096x1_0_0_0
abbrev r1_1 : Rect S1x128 := Rect.unit (s := S1x128) ![0, 0] S1x128.size inb_S1x128_S1x128_0_0
abbrev r1_2 : Rect S1x64 := Rect.unit (s := S1x64) ![0, 0] S1x64.size inb_S1x64_S1x64_0_0
abbrev r1_3 : Rect S128x128 := Rect.unit (s := S128x128) ![0, 0] S128x128.size inb_S128x128_S128x128_0_0
abbrev r1_4 : Rect S128x256 := Rect.unit (s := S128x256) ![0, 0] S128x256.size inb_S128x256_S128x256_0_0
abbrev r1_5 : Rect S1x256 := Rect.unit (s := S1x256) ![0, 0] S1x256.size inb_S1x256_S1x256_0_0
abbrev r1_6 : Rect S64x256 := Rect.unit (s := S64x256) ![0, 0] S64x256.size inb_S64x256_S64x256_0_0
abbrev r1_7 : Rect S1x4096x256 := Rect.unit (s := S1x4096x256) ![0, 0, 0] S1x4096x256.size inb_S1x4096x256_S1x4096x256_0_0_0

/-! ## What the body leaves in each output window's buffer -/

/-- The frame numbers 0, 1, …, 4095 as a column, as the body makes them. The arguments are the blocks the point reads,
    listed in full as for `out1_12`. -/
def k1_pay15 (x0 : Vec F S1x4096x1 .i32) (x1 : Vec F S1x4096x1 .f32) (x2 : Vec F S1x128 .f32) (x3 : Vec F S1x128 .f32) (x4 : Vec F S1x128 .f32) (x5 : Vec F S1x64 .f32) (x6 : Vec F S64x256 .f32) (x7 : Vec F S64x256 .f32) (x8 : Vec F S128x128 .f32) (x9 : Vec F S128x256 .f32) (x10 : Vec F S1x128 .f32) (x11 : Vec F S1x256 .f32) : IVec S4096x1 32 :=
  iota .tc S4096x1 32 [0] iota_S4096x1_d0_w32
/-- The row's flags as a column. -/
def k1_pay16 (x0 : Vec F S1x4096x1 .i32) (x1 : Vec F S1x4096x1 .f32) (x2 : Vec F S1x128 .f32) (x3 : Vec F S1x128 .f32) (x4 : Vec F S1x128 .f32) (x5 : Vec F S1x64 .f32) (x6 : Vec F S64x256 .f32) (x7 : Vec F S64x256 .f32) (x8 : Vec F S128x128 .f32) (x9 : Vec F S128x256 .f32) (x10 : Vec F S1x128 .f32) (x11 : Vec F S1x256 .f32) : IVec S4096x1 32 :=
  k1_pay2 (View.ld x0 r1_0)

/-- What the result window's buffer holds after the body, from the twelve blocks it reads: the one value the body stores
    there, over the whole buffer. -/
def out1_12 (x0 : Vec F S1x4096x1 .i32) (x1 : Vec F S1x4096x1 .f32) (x2 : Vec F S1x128 .f32) (x3 : Vec F S1x128 .f32) (x4 : Vec F S1x128 .f32) (x5 : Vec F S1x64 .f32) (x6 : Vec F S64x256 .f32) (x7 : Vec F S64x256 .f32) (x8 : Vec F S128x128 .f32) (x9 : Vec F S128x256 .f32) (x10 : Vec F S1x128 .f32) (x11 : Vec F S1x256 .f32) : Vec F S1x4096x256 .f32 :=
  View.canon [⟨r1_7, k1_pay1 (k1_pay10 (k1_pay8 (k1_pay15 x0 x1 x2 x3 x4 x5 x6 x7 x8 x9 x10 x11) (k1_pay5 (k1_pay3 (View.ld x0 r1_0)) k1_pay4) (k1_pay6 (k1_pay16 x0 x1 x2 x3 x4 x5 x6 x7 x8 x9 x10 x11) (k1_pay15 x0 x1 x2 x3 x4 x5 x6 x7 x8 x9 x10 x11)) (k1_pay7 (k1_pay16 x0 x1 x2 x3 x4 x5 x6 x7 x8 x9 x10 x11) (k1_pay15 x0 x1 x2 x3 x4 x5 x6 x7 x8 x9 x10 x11)) 4096#32 (View.ld x2 r1_1) (View.ld x3 r1_1) (View.ld x4 r1_1)) (k1_pay9 (F := F))) (k1_pay11 (View.ld x1 r1_0) (View.ld x5 r1_2)) (k1_pay12 (View.ld x8 r1_3) (View.ld x9 r1_4)) (k1_pay13 (View.ld x10 r1_1) (View.ld x9 r1_4) (View.ld x11 r1_5)) (k1_pay14 (View.ld x1 r1_0) (View.ld x5 r1_2)) (View.ld x6 r1_6) (View.ld x7 r1_6)⟩]

/-- Its stores tile the buffer (checked by evaluation), so they cover it. -/
theorem cover1_12 (p0 : Vec F S1x4096x256 .f32) (y : S1x4096x256.Idx) :
    ∃ pc ∈ ([⟨r1_7, p0⟩] : List (View.Piece (Elt F) S1x4096x256 .f32)), y ∈ pc.1.set :=
  View.cover_of_tiled [⟨r1_7, p0⟩] S1x4096x256.size (by rfl) y

/-! ## The body's triple -/

set_option maxHeartbeats 1000000 in
/-- The body on whole buffers, the twelve inputs' at `x0` … `x11` and the result's at anything: it leaves the inputs'
    as they were and the result's at `out1_12` of them. -/
theorem sound_kernel1 (c : Dev nD) (E : Set ℕ) (i : grid1.Coords) (arg1 : Memref sig .tc .vmem S1x4096x1 .i32) (harg1 : arg1.IsWhole) (arg2 : Memref sig .tc .vmem S1x4096x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S128x128 .f32) (harg9 : arg9.IsWhole) (arg10 : Memref sig .tc .vmem S128x256 .f32) (harg10 : arg10.IsWhole) (arg11 : Memref sig .tc .vmem S1x128 .f32) (harg11 : arg11.IsWhole) (arg12 : Memref sig .tc .vmem S1x256 .f32) (harg12 : arg12.IsWhole) (arg13 : Memref sig .tc .vmem S1x4096x256 .f32) (harg13 : arg13.IsWhole)
    (x0 : Vec F S1x4096x1 .i32) (x1 : Vec F S1x4096x1 .f32) (x2 : Vec F S1x128 .f32) (x3 : Vec F S1x128 .f32) (x4 : Vec F S1x128 .f32) (x5 : Vec F S1x64 .f32) (x6 : Vec F S64x256 .f32) (x7 : Vec F S64x256 .f32) (x8 : Vec F S128x128 .f32) (x9 : Vec F S128x256 .f32) (x10 : Vec F S1x128 .f32) (x11 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11)) -∗ K ⟨⟩))
      ⊢ wp frame (wpE (defs₀ (F := F)) Variants.none c none) E (cc1__embed_kernel i arg1 harg1 arg2 harg2 arg3 harg3 arg4 harg4 arg5 harg5 arg6 harg6 arg7 harg7 arg8 harg8 arg9 harg9 arg10 harg10 arg11 harg11 arg12 harg12 arg13 harg13) K := by
  simp only [cc1__embed_kernel_eq_skeleton]; unfold cc1__embed_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  refine (View.read_writes_eq_canon _ _ _ (cover1_12 _)).trans ?_
  rfl

/-! ## The pipeline's proof data -/

/-- The region's proof data: the arrays hold `V` when it is entered; after the body at point `t` an input's buffer holds
    its block and the result's holds `out1_12` of the input blocks; nothing is owed, and the shares are full. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the contents that the region is entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body's obligation at every point: its triple, restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdeal.Run.lean ====
/- The whole run of `KernelIdeal`'s @main: a host stretch, the region that finds the scene boundaries, a host stretch, the region
   that computes the embedding.

   The first region's scratch row is never written before the first grid point reads it, so what the region leaves in
   its array is known only up to that row. Everything after it is therefore stated for SOME row `v` (`W2 v`, `W3 v`,
   `W4 v` are the buffer contents at the later boundaries), and the second region, whose proof data depend on `v`, is
   run as a host segment which holds the region's own share of the launch's ghost state (`ghost1`). -/
module

public import proofs.«01_k».proof.Proof.KernelIdeal.Embed
public import proofs.«01_k».proof.Proof.Gen.KernelIdeal.Regions
public import Idealize.ShloMosaic.Lib.Pipeline.RegionsOwned

@[expose] public section

set_option maxRecDepth 16384

noncomputable section

namespace Cert.KernelIdeal.Run

open Cert.KernelIdeal.Gen (hostOps0_fresh hostOps1_fresh hostOps0_W hostOps1_W hostOps0_writes hostOps1_writes hostOps0 hostOps1
  hostOps0_sub hostOps1_sub main_chain launch0 launch1 cellOf_inj bigSep_W0)
open Idealize.ShloMosaic Idealize.ShloMosaic.TcCoe Idealize.ShloMosaic.Tactic
open Idealize.SL Idealize.SL.RA Idealize.SL.BI PCS
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8]

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)

/-! ## The buffer contents at each boundary -/

/-- Core `c`'s buffers at launch. -/
abbrev W0 : Dev nD → Valuation τ sig (Elt F) := fun c b => m ((c : Dev nD), b)
/-- After the first host stretch. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region, if the row its first point found is `v`. -/
def W2 (v : Vec F S1x768 .f32) (c : Dev nD) : Valuation τ sig (Elt F) :=
  Pipeline.withArrays spec0 c (W1 m c) fun w => (flagsDat (E1 m) v c).arrAt w cfg0.N
abbrev E2 (v : Vec F S1x768 .f32) : (c : Dev nD) → (b : Ref sig .tc) → Buf (Elt F) ((c : Thread nD τ).loc b) := fun c b => W2 m v c b
/-- After the second host stretch. -/
abbrev W3 (v : Vec F S1x768 .f32) : Dev nD → Valuation τ sig (Elt F) := fun c => StableHlo.after hostOps1 (W2 m v c)
abbrev E3 (v : Vec F S1x768 .f32) : (c : Dev nD) → (b : Ref sig .tc) → Buf (Elt F) ((c : Thread nD τ).loc b) := fun c b => W3 m v c b
/-- After the second region. -/
def W4 (v : Vec F S1x768 .f32) (c : Dev nD) : Valuation τ sig (Elt F) :=
  Pipeline.withArrays spec1 c (W3 m v c) fun w => (dat1 (E3 m v) c).arrAt w cfg1.N
abbrev E4 (v : Vec F S1x768 .f32) : (c : Dev nD) → (b : Ref sig .tc) → Buf (Elt F) ((c : Thread nD τ).loc b) := fun c b => W4 m v c b

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (v : Vec F S1x768 .f32) (c : Dev nD) (r : Ref sig .tc) (h : r ∉ hostOps1_W) :
    W3 m v c (Proc.devRef .tc r) = W2 m v c (Proc.devRef .tc r) :=
  StableHlo.after_of_writes_sub hostOps1 _ hostOps1_writes h

theorem W2_arr (v : Vec F S1x768 .f32) (c : Dev nD) (w : Fin cfg0.W) :
    W2 m v c (Proc.devRef .tc (Pipeline.arrRef spec0 w)) = (flagsDat (E1 m) v c).arrAt w cfg0.N := by
  unfold W2; exact Pipeline.withArrays_arr spec0 launch0.win.arr_inj c _ _ w
theorem W2_of_ne (v : Vec F S1x768 .f32) (c : Dev nD) (b : Ref sig .tc) (hb : ∀ w, Pipeline.arrRef spec0 w ≠ b) :
    W2 m v c (Proc.devRef .tc b) = W1 m c (Proc.devRef .tc b) := by
  unfold W2; exact Pipeline.withArrays_of_ne spec0 c _ _ b hb
theorem W4_arr (v : Vec F S1x768 .f32) (c : Dev nD) (w : Fin cfg1.W) :
    W4 m v c (Proc.devRef .tc (Pipeline.arrRef spec1 w)) = (dat1 (E3 m v) c).arrAt w cfg1.N := by
  unfold W4; exact Pipeline.withArrays_arr spec1 launch1.win.arr_inj c _ _ w
theorem W4_of_ne (v : Vec F S1x768 .f32) (c : Dev nD) (b : Ref sig .tc) (hb : ∀ w, Pipeline.arrRef spec1 w ≠ b) :
    W4 m v c (Proc.devRef .tc b) = W3 m v c (Proc.devRef .tc b) := by
  unfold W4; exact Pipeline.withArrays_of_ne spec1 c _ _ b hb

/-- A reference that is no output array of the first region keeps its contents across it. -/
theorem W2_of (v : Vec F S1x768 .f32) (c : Dev nD) (r : Ref sig .tc)
    (h : ∀ w : Fin cfg0.W, Pipeline.arrRef spec0 w = r → (cfg0.win w).isOut = false) :
    W2 m v c (Proc.devRef .tc r) = W1 m c (Proc.devRef .tc r) := by
  by_cases hw : ∃ w : Fin cfg0.W, Pipeline.arrRef spec0 w = r
  · obtain ⟨w, rfl⟩ := hw
    exact (W2_arr m v c w).trans (((flagsDat (E1 m) v c).arrAt_in w (h w rfl) _).trans (flagsDat_A (E1 m) v c w))
  · exact W2_of_ne m v c r fun w e => hw ⟨w, e⟩
/-- A reference that is no output array of the second region keeps its contents across it. -/
theorem W4_of (v : Vec F S1x768 .f32) (c : Dev nD) (r : Ref sig .tc)
    (h : ∀ w : Fin cfg1.W, Pipeline.arrRef spec1 w = r → (cfg1.win w).isOut = false) :
    W4 m v c (Proc.devRef .tc r) = W3 m v c (Proc.devRef .tc r) := by
  by_cases hw : ∃ w : Fin cfg1.W, Pipeline.arrRef spec1 w = r
  · obtain ⟨w, rfl⟩ := hw
    exact (W4_arr m v c w).trans (((dat1 (E3 m v) c).arrAt_in w (h w rfl) _).trans (A_eq1 (E3 m v) c w))
  · exact W4_of_ne m v c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
/-- The arguments' contents after the first region are the launch's, -/
theorem W2_args (v : Vec F S1x768 .f32) (c : Dev nD) : ∀ a ∈ argRefs, W2 m v c (Proc.devRef .tc a) = m ((c : Thread nD τ).loc a) :=
  fun a ha => (W2_of m v c a (argsIn0 a ha)).trans (W1_of m c a (hostOps0_args a ha))
/-- and so are those at the end. -/
theorem W4_args (v : Vec F S1x768 .f32) (c : Dev nD) : ∀ a ∈ argRefs, W4 m v c (Proc.devRef .tc a) = m ((c : Thread nD τ).loc a) :=
  fun a ha => (W4_of m v c a (argsIn1 a ha)).trans ((W3_of m v c a (hostOps1_args a ha)).trans (W2_args m v c a ha))

theorem hF0 (v : Vec F S1x768 .f32) (c : Dev nD) (w : Fin cfg0.W) : (flagsDat (E1 m) v c).arrAt w cfg0.N = E2 m v c (Pipeline.arrRef spec0 w) :=
  (W2_arr m v c w).symm
theorem hrest0 (v : Vec F S1x768 .f32) (c : Dev nD) : ∀ b, b ∉ Finset.univ.image (Pipeline.arrRef spec0) → E2 m v c b = E1 m c b :=
  fun b hb => W2_of_ne m v c b fun w e => hb (Finset.mem_image.mpr ⟨w, Finset.mem_univ _, e⟩)
theorem hF1 (v : Vec F S1x768 .f32) (c : Dev nD) (w : Fin cfg1.W) : (dat1 (E3 m v) c).arrAt w cfg1.N = E4 m v c (Pipeline.arrRef spec1 w) :=
  (W4_arr m v c w).symm
theorem hrest1 (v : Vec F S1x768 .f32) (c : Dev nD) : ∀ b, b ∉ Finset.univ.image (Pipeline.arrRef spec1) → E4 m v c b = E3 m v c b :=
  fun b hb => W4_of_ne m v c b fun w e => hb (Finset.mem_image.mpr ⟨w, Finset.mem_univ _, e⟩)

/-! ## The proof data and the thread state -/

abbrev adm : (p : Fin 2) → (pcfgs (F := F) p).Adm := fun p => (cfgs p).toPCfg_adm
/-- Both regions' exact proof data, if the row found is `v`. -/
def pdats (v : Vec F S1x768 .f32) : (p : Fin 2) → (c : Dev nD) → Dat τ (Elt F) Unit ℕ UU ℕ (Pipeline.pin (pcfgs (F := F)) adm p) c
  | ⟨0, _⟩ => fun c => flagsDat (E1 m) v c
  | ⟨1, _⟩ => fun c => dat1 (E3 m v) c
/-- Some row (the last of the first block). -/
def someRow (c : Dev nD) : Vec F S1x768 .f32 := lastRow (iblk0 (E1 m) c 0 ⟨0, cfg0_N_pos⟩)
/-- The data the launch runs with: the first region's say which arrays it may leave; the second's are not used. -/
def rdats : (p : Fin 2) → (c : Dev nD) → RDat τ (Elt F) Unit ℕ UU ℕ (Pipeline.pin (pcfgs (F := F)) adm p) c
  | ⟨0, _⟩ => fun c => flagsRDat (E1 m) (someRow m c) c
  | ⟨1, _⟩ => fun c => (dat1 (E3 m (someRow m c)) c).toR
abbrev 𝒱₀ : Variants := Variants.none
abbrev L : GSem nD τ sig → Finset Unit := fun _ => ∅
abbrev lv : GSem nD τ sig → Unit → ℕ := fun _ _ => 0

/-- The second region's share of the launch's ghost state, held from the launch to that region. -/
abbrev ghost1 (c : Dev nD) : sProp 𝕄 :=
  iprop(Pipeline.cellsGhost (Pipeline.pin (pcfgs (F := F)) adm) embR 1 c
    ∗ Pipeline.toksInit (Pipeline.pin (pcfgs (F := F)) adm) embR 1 c)
/-- What the core holds beside its buffers at every boundary: its generator register and that it owes nothing. -/
abbrev R (c : Dev nD) : sProp 𝕄 := iprop((∃ r, prngReg c r) ∗ ∃ W, owes (c : Thread nD τ) (0 : CellTallies nD τ sig Unit) W)

abbrev hseg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) fun c => iprop(R c ∗ ghost1 c)
/-- The second host stretch, from the contents for some row to those after the stretch for some row. -/
abbrev hseg1 : Pipeline.HostSeg (Name := ℕ) (U := UU) (pcfgs (F := F)) defs₀ 𝒱₀ L lv :=
  Pipeline.HostSeg.ofOpsEx (pcfgs (F := F)) defs₀ 𝒱₀ L lv (Γ := fun _ => Vec F S1x768 .f32) (Pipeline.ucRefs τ sig) hostOps1
    (fun op h => Pipeline.sub_ucRefs op ((List.forall_iff_forall_mem.mp hostOps1_sub) op h))
    (fun op h => (List.forall_iff_forall_mem.mp hostOps1_fresh) op h) (fun c v => W2 m v c) fun c => iprop(R c ∗ ghost1 c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: for some row, every unscoped buffer at the last boundary's contents. -/
abbrev Tₙ (c : Dev nD) : sProp 𝕄 :=
  iprop((∃ v, StableHlo.held (c : Thread nD τ) (Pipeline.ucRefs τ sig) (W4 m v c)) ∗ ∃ r, prngReg c r)

/-! ## The regions as segments -/

/-- The buffers no window of the first region stages: its scratch row and the others. -/
theorem scratch_split (c : Dev nD) :
    (Pipeline.scopedRest (Ix := Unit) (Name := ℕ) (U := UU) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut spec0 c [cc0_scratch0]) :=
  Pipeline.scopedRest_split_of_list spec0 c [cc0_scratch0] (by decide) (by decide)

/-- Nothing is asked of the scratch row before the first point. -/
theorem Φ0_in (V : (c : Dev nD) → (b : Ref sig .tc) → Buf (Elt F) ((c : Thread nD τ).loc b)) (c : Dev nD) :
    iprop((∃ r, prngReg c r) ∗ Pipeline.scopedRest spec0 c) ⊢ (Φ0 V c 0 : sProp 𝕄) := by
  rw [scratch_split]; unfold Φ0
  iintro ⟨Hp, ⟨%f, Hs⟩, Hr⟩
  isplitl [Hs]
  · iexists f
    isplitr
    · ipureintro; intro u hu; exact absurd hu (Nat.succ_ne_zero _)
    · rw [owns_whole]; iexact Hs
  isplitl [Hr] <;> iassumption

theorem Φ0_out (V : (c : Dev nD) → (b : Ref sig .tc) → Buf (Elt F) ((c : Thread nD τ).loc b)) (c : Dev nD) :
    (Φ0 V c (Fin.last _) : sProp 𝕄) ⊢ iprop((∃ r, prngReg c r) ∗ Pipeline.scopedRest spec0 c) := by
  rw [scratch_split]; unfold Φ0
  iintro ⟨⟨%f, -, Hs⟩, Hr, Hp⟩
  isplitl [Hp]; · iexact Hp
  isplitl [Hs]
  · iexists f
    iapply (show owns (c : Thread nD τ) (Memref.whole cc0_scratch0) fullShare f ⊢ (((c : Thread nD τ).loc cc0_scratch0) ↦{fullShare} f : sProp 𝕄)
      from Entails.of_eq (owns_whole _ _ _ _))
    iexact Hs
  iexact Hr

/-- What the first region leaves in its arrays is, for some row, what `flagsDat` names. -/
theorem arrays_exact (c : Dev nD) :
    ((rdats m 0 c).arraysAt cfg0.N : sProp 𝕄)
      ⊢ iprop(∃ v, (flagsDat (E1 m) v c).arrays ((flagsDat (E1 m) v c).arrAt · cfg0.N)) := by
  rw [RDat.arraysAt_eq (pcfgs (F := F)) adm (rdats m) 0 c launch0.arr_whole
    (fun w => (flagsDat (E1 m) (someRow m c) c).share_full (fun _ => rfl) w)]
  iintro Ha
  ihave H := (bigSep_exists_pi Finset.univ _) $$ Ha
  icases H with ⟨%G, H⟩
  ihave H := (bigSep_pure_sep Finset.univ _ _) $$ H
  icases H with ⟨%hG, Ha⟩
  obtain ⟨v, hv⟩ := flags_exact (E1 m) (someRow m c) c (fun w => hG w (Finset.mem_univ _))
  iexists v
  rw [show (flagsDat (E1 m) v c).arrays ((flagsDat (E1 m) v c).arrAt · cfg0.N) = _ from
    Pipeline.arrays_eq (Pipeline.pin (pcfgs (F := F)) adm) (pdats m v) 0 c launch0.arr_whole ((pdats m v 0 c).share_full fun _ => rfl)
      ((flagsDat (E1 m) v c).arrAt · cfg0.N)]
  obtain rfl : G = fun w => (flagsDat (E1 m) v c).arrAt w cfg0.N := funext hv
  iexact Ha

set_option backward.isDefEq.respectTransparency.types false in
/-- The first region: entered at `W1`, left at `W2 v` for some row `v`. -/
def reg0 : RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (E1 m) (someRow m c) c
  hwaits := RDat.hwaits_of_owed_zero _ _ _ _ L lv 0 fun _ _ => rfl
  pre c := iprop(StableHlo.held (c : Thread nD τ) (Pipeline.ucRefs τ sig) (W1 m c) ∗ R c ∗ ghost1 c)
  post c := iprop((∃ v, StableHlo.held (c : Thread nD τ) (Pipeline.ucRefs τ sig) (W2 m v c)) ∗ R c ∗ ghost1 c)
  X c := iprop(∃ r, prngReg c r)
  Y c := iprop(∃ r, prngReg c r)
  Z c := iprop(Pipeline.unscopedRest (Ix := Unit) (Name := ℕ) (U := UU) (Lvl := ℕ) spec0 c (E1 m c) ∗ ghost1 c)
  hentry c := by
    rw [Pipeline.ownSems0_none]
    have hsplit := RDat.arrays_of_unscopedBufs (p := 0) (pcfgs (F := F)) adm (rdats m) launch0.win launch0.arr_whole c
      (fun w => (flagsDat (E1 m) (someRow m c) c).share_full (fun _ => rfl) w) (E1 m c) (flagsDat_A (E1 m) (someRow m c) c)
    rw [Pipeline.unscopedBufs_held] at hsplit
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (show iprop(∃ W, owes (c : Thread nD τ) (0 : CellTallies nD τ sig Unit) W)
          ⊢ (flagsDat (E1 m) (someRow m c) c).owesAt () 0 from by
        unfold Pipeline.Dat.owesAt Pipeline.owesWithin
        iintro ⟨%W, HO⟩; iexists W; isplitr; · ipureintro; exact fun _ _ => Or.inl trivial
        iexact HO)
      iexact HO
    isplitl [Hp]; · iexact Hp
    isplitl [Hrest] <;> iassumption
  hin c := by
    refine BIBase.Entails.trans ?_ (Φ0_in (E1 m) c)
    iintro ⟨Hp, -, Hr⟩
    isplitl [Hp] <;> iassumption
  hout c := by
    rw [Pipeline.ownSems0_none]
    refine (Φ0_out (E1 m) c).trans ?_
    iintro ⟨Hp, Hr⟩
    isplitl [Hp]; · iexact Hp
    isplitr; · iempintro
    iexact Hr
  hexit c := by
    have hjoin := fun v => Pipeline.unscopedBufs_of_arrays (p := 0) (pcfgs (F := F)) adm (Ix := Unit) (Name := ℕ) (U := UU) (Lvl := ℕ)
      launch0.win launch0.arr_whole c (pdats m v) ((pdats m v 0 c).share_full fun _ => rfl)
      (E1 m c) (E2 m v c) ((pdats m v 0 c).arrAt · cfg0.N) (hF0 m v c) (hrest0 m v c)
    iintro ⟨Ha, HO, HY, Hrest, HG⟩
    ihave H := (arrays_exact m c) $$ Ha
    icases H with ⟨%v, Ha⟩
    have hj := hjoin v
    rw [Pipeline.unscopedBufs_held] at hj
    imodintro
    isplitl [Ha Hrest]
    · iexists v
      iapply (show iprop((flagsDat (E1 m) v c).arrays ((flagsDat (E1 m) v c).arrAt · cfg0.N) ∗ Pipeline.unscopedRest spec0 c (E1 m c))
        ⊢ StableHlo.held (c : Thread nD τ) (Pipeline.ucRefs τ sig) (W2 m v c) from hj)
      isplitl [Ha] <;> iassumption
    isplitl [HY HO]
    · isplitl [HY]; · iexact HY
      iapply (show (flagsDat (E1 m) (someRow m c) c).owesAt () (Fin.last _)
          ⊢ iprop(∃ W, owes (c : Thread nD τ) (0 : CellTallies nD τ sig Unit) W) from by
        unfold Pipeline.Dat.owesAt Pipeline.owesWithin
        iintro ⟨%W, -, HO⟩; iexists W; iexact HO)
      iexact HO
    iexact HG

set_option backward.isDefEq.respectTransparency.types false in
/-- The second region, if the row found is `v`: entered at `W3 v`, left at `W4 v`. -/
def reg1 (v : Vec F S1x768 .f32) : Pipeline.RegionSeg (pcfgs (F := F)) adm (pdats m v) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m v) c).loose
  hwaits := Pipeline.hwaits_of_owed_zero _ _ _ _ L lv 1 fun _ _ => rfl
  pre c := iprop(StableHlo.held (c : Thread nD τ) (Pipeline.ucRefs τ sig) (W3 m v c) ∗ R c)
  post c := iprop((StableHlo.held (c : Thread nD τ) (Pipeline.ucRefs τ sig) (W4 m v c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UU) (Lvl := ℕ) spec1 c (E3 m v c)
  hentry c := by
    rw [Pipeline.ownSems0_none]
    have hsplit := Pipeline.arrays_of_unscopedBufs (p := 1) (pcfgs (F := F)) adm (pdats m v) launch1.win launch1.arr_whole c
      ((pdats m v 1 c).share_full fun _ => rfl) (E3 m v c) (A_eq1 (E3 m v) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m v 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m v 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m v) ((pdats m v 1 c).share_full fun _ => rfl)
      (E3 m v c) (E4 m v c) ((pdats m v 1 c).arrAt · cfg1.N) (hF1 m v c) (hrest1 m v c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

set_option backward.isDefEq.respectTransparency.types false in
/-- The second region as a host segment, for whichever row was found. -/
def hreg1 : Pipeline.HostSeg (Name := ℕ) (U := UU) (pcfgs (F := F)) defs₀ 𝒱₀ L lv where
  prog := Prog.lift (.customCall (Pipeline.entry 1) ())
  pre c := iprop((∃ v, StableHlo.held (c : Thread nD τ) (Pipeline.ucRefs τ sig) (W3 m v c)) ∗ R c ∗ ghost1 c)
  post c := iprop(Tₙ m c ∗ ∃ W, owes (c : Thread nD τ) (0 : CellTallies nD τ sig Unit) W)
  run c {β} k K := by
    have hreg := fun v => Pipeline.RegionSeg.wp (pcfgs (F := F)) adm (pdats m v) () cellOf_inj embR defs₀ 𝒱₀ L lv (reg1 m v) c none
      (fun _ h => nomatch h) k K
    iintro ⟨Hk, Hb, ⟨⟨%v, Hh⟩, HR, HG⟩, HL⟩
    iapply (hreg v)
    isplitl [Hk]
    · rw [show (reg1 m v).post c = iprop((StableHlo.held (c : Thread nD τ) (Pipeline.ucRefs τ sig) (W4 m v c) ∗ ∃ r, prngReg c r)
        ∗ ∃ W, owes (c : Thread nD τ) (0 : CellTallies nD τ sig Unit) W) from rfl]
      iintro ⟨Hb, ⟨Hh, Hp⟩, HO⟩
      iapply Hk
      isplitl [Hb]; · iexact Hb
      isplitl [Hh Hp]
      · isplitl [Hh]; · iexists v; iexact Hh
        iexact Hp
      iexact HO
    isplitl [Hb]; · iexact Hb
    isplitl [Hh HR]
    · rw [show (reg1 m v).pre c = iprop(StableHlo.held (c : Thread nD τ) (Pipeline.ucRefs τ sig) (W3 m v c) ∗ R c) from rfl]
      isplitl [Hh] <;> iassumption
    isplitl [HL]; · iexact HL
    iexact HG

/-! ## @main as segments, and the launch -/

abbrev segs : List (RDat.Seg (pcfgs (F := F)) adm (rdats m) () defs₀ 𝒱₀ L lv) :=
  [ .host (hseg0 m), .region (reg0 m), .host (hseg1 m), .host (hreg1 m) ]
theorem main_run (c : Dev nD) : main (F := F) c = RDat.Seg.run (segs m) := (main_chain c).trans (by chain_rfl)

theorem no_unscoped : ∀ sm : SemLoc sig, sm.isScoped .tc = true := by decide

/-- The launch's second copy of the ghost state holds each core's share of the second region. -/
theorem ghost1_of_launch :
    (BI.own (embR (initOf (Pipeline.cells cfgs cellOf_inj) (Pipeline.launchToks cfgs cellOf_inj))) : sProp 𝕄)
      ⊢ iprop(|==> bigSep Finset.univ fun c : Dev nD => ghost1 (F := F) c) := by
  refine (Pipeline.fund_ghost (Pipeline.pin (pcfgs (F := F)) adm) embR cellOf_inj).trans ?_
  iintro >⟨HG, HT⟩
  imodintro
  rw [bigSep_sep']
  isplitl [HG]
  · iapply (show (bigSep Finset.univ fun c : Dev nD => bigSep Finset.univ fun p => Pipeline.cellsGhost (Pipeline.pin (pcfgs (F := F)) adm) embR p c : sProp 𝕄)
      ⊢ bigSep Finset.univ fun c : Dev nD => Pipeline.cellsGhost (Pipeline.pin (pcfgs (F := F)) adm) embR 1 c
      from bigSep_mono fun c _ => bigSep_elim (Finset.mem_univ (1 : Fin 2)))
    iexact HG
  · iapply (show (bigSep Finset.univ fun c : Dev nD => bigSep Finset.univ fun p => Pipeline.toksInit (Pipeline.pin (pcfgs (F := F)) adm) embR p c : sProp 𝕄)
      ⊢ bigSep Finset.univ fun c : Dev nD => Pipeline.toksInit (Pipeline.pin (pcfgs (F := F)) adm) embR 1 c
      from bigSep_mono fun c _ => bigSep_elim (Finset.mem_univ (1 : Fin 2)))
    iexact HT

set_option backward.isDefEq.respectTransparency.types false in
/-- The run: @main terminates on every core without a fault from any memory with every counter at zero, and at the end every
    counter is zero and, for some row, every unscoped buffer holds what the last boundary's contents say. -/
theorem run_all : θ_run defs (onTc (τ := τ) (main (F := F))) ⟨m, fun _ => 0, ρ⟩ (fun r =>
      (∀ c : Dev nD, ∃ v, ∀ b ∈ Pipeline.ucRefs τ sig, r.2.mem (((c : Thread nD τ)).1, b) = W4 m v c b) ∧ r.2.sem = fun _ => 0) :=
  RDat.θ_run_regions_kit_sems (pcfgs (F := F)) adm (rdats m) () cellOf_inj embL defs₀ 𝒱₀ L lv m ρ main (segs m)
    (fun c Q => by rw [main_run m c])
    (by simp only [segs, RDat.Seg.pipes_host, RDat.Seg.pipes_region, RDat.Seg.pipes_nil]; decide)
    (O₀ := 0) (hL := fun _ _ => rfl) (G := fun c => ghost1 c)
    (u₀ := (initOf (Pipeline.cells cfgs cellOf_inj) (Pipeline.launchToks cfgs cellOf_inj),
      initOf (Pipeline.cells cfgs cellOf_inj) (Pipeline.launchToks cfgs cellOf_inj)))
    (hu₀ := by
      iintro Hu
      ihave H := (ownU_pair _ _) $$ Hu
      icases H with ⟨HL, HR⟩
      ihave HG := ghost1_of_launch $$ HR
      imod HG with HG
      imodintro
      isplitl [HL]; · iexact HL
      iexact HG)
    (T₀ := fun c => iprop(StableHlo.held (c : Thread nD τ) (Pipeline.ucRefs τ sig) (W0 m c) ∗ R c ∗ ghost1 c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitl [Hh]; · iexact Hh
      isplitl [Hp HO]
      · isplitl [Hp]; · iexists _; iexact Hp
        iexists ∅; iexact HO
      iexact HG)
    (QY := fun c s => ∃ v, ∀ b ∈ Pipeline.ucRefs τ sig, s.mem (((c : Thread nD τ)).1, b) = W4 m v c b)
    (hfin := fun c s' => by
      iintro ⟨⟨⟨%v, Hh⟩, -⟩, HSI⟩
      unfold StableHlo.held
      imodintro
      ihave H := (pointsTo_read_all (Pipeline.ucRefs τ sig) (fun b => (((c : Thread nD τ)).1, b)) (W4 m v c) s') $$ [Hh HSI]
      · isplitl [Hh] <;> iassumption
      icases H with ⟨%h, HSI⟩
      isplitr
      · ipureintro; exact ⟨v, h⟩
      iexact HSI)
    (hQ := fun s h hz => ⟨h, funext fun g => hz g (.inr (no_unscoped g.2))⟩)

/-- What a final state holds: the arguments as launched, and in the result buffer, for some row `v`, what the second
    region leaves there. -/
theorem run_result : θ_run defs (onTc (τ := τ) (main (F := F))) ⟨m, fun _ => 0, ρ⟩ (fun r =>
      (∀ c : Dev nD, (∃ v, r.2.mem ((c.tc : Thread nD τ).loc main_v19) = (dat1 (E3 m v) c).arrAt 12 cfg1.N)
        ∧ ∀ a ∈ argRefs, r.2.mem ((c.tc : Thread nD τ).loc a) = m ((c.tc : Thread nD τ).loc a)) ∧ r.2.sem = fun _ => 0) :=
  (θ_run defs _ _).mono (fun r h => ⟨fun c => by
    obtain ⟨v, hv⟩ := h.1 c
    exact ⟨⟨v, (hv _ (mem_uc main_v19 (by decide))).trans (W4_arr m v c 12)⟩, fun a ha =>
      (hv _ (mem_uc a (by revert a; decide))).trans (W4_args m v c a ha)⟩, h.2⟩) (run_all m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => by
    have ha := (h.1 c).2
    exact ⟨ha _ (by decide), ha _ (by decide), ha _ (by decide), ha _ (by decide), ha _ (by decide), ha _ (by decide),
      ha _ (by decide), ha _ (by decide), ha _ (by decide)⟩, h.2⟩) (run_result m ρ)

end Cert.KernelIdeal.Run

end
-- ==== Proof.Value.Scan.lean ====
/- The running maximum and the running minimum of a column of words, made by doubling. A step takes the maximum (minimum) of
   the column and the column moved `n` places down (up) with a constant moved in; after it, an entry bounds twice as many
   entries of the first column. `Below c x y n` and `Above c x y n` say which entries of `x` the entries of `y` bound, over ℤ. -/
module

public import Idealize.ShloMosaic.Lib.Pointwise
public import Idealize.ShloMosaic.Lib.Pipeline.Value

@[expose] public section

namespace Cert.Scan

open Idealize.ShloMosaic

/-- A column of `n` entries. -/
abbrev Col (n : Nat) : Shape := ⟨2, ![n, 1]⟩

/-- `y`'s entry at `r` is the maximum of `c` and `x`'s entries at the `n` places up to `r`. -/
def Below {N : Nat} (c : ℤ) (x y : IVec (Col N) 32) (n : Nat) : Prop :=
  ∀ (r : Fin N) (z : ℤ), (y (ix2 r 0)).toInt ≤ z ↔ c ≤ z ∧ ∀ j : Fin N, j.val ≤ r.val → r.val < j.val + n → (x (ix2 j 0)).toInt ≤ z

/-- `y`'s entry at `r` is the minimum of `c` and `x`'s entries at the `n` places from `r` on. -/
def Above {N : Nat} (c : ℤ) (x y : IVec (Col N) 32) (n : Nat) : Prop :=
  ∀ (r : Fin N) (z : ℤ), z ≤ (y (ix2 r 0)).toInt ↔ z ≤ c ∧ ∀ j : Fin N, r.val ≤ j.val → j.val < r.val + n → z ≤ (x (ix2 j 0)).toInt

/-- A bound on a maximum is a bound on both. -/
theorem toInt_maxsi_le (a b : BitVec 32) (z : ℤ) : (IntOp.maxsi a b).toInt ≤ z ↔ a.toInt ≤ z ∧ b.toInt ≤ z := by
  unfold IntOp.maxsi
  split
  · next h => rw [BitVec.slt_iff_toInt_lt] at h; omega
  · next h => rw [BitVec.slt_iff_toInt_lt] at h; omega

/-- A lower bound on a minimum is one on both. -/
theorem le_toInt_minsi (a b : BitVec 32) (z : ℤ) : z ≤ (IntOp.minsi a b).toInt ↔ z ≤ a.toInt ∧ z ≤ b.toInt := by
  unfold IntOp.minsi
  split
  · next h => rw [BitVec.slt_iff_toInt_lt] at h; omega
  · next h => rw [BitVec.slt_iff_toInt_lt] at h; omega

/-- A column moved `n` places down, `c` moved in above, at an entry. -/
theorem down_apply {N n m : Nat} (x : IVec (Col n) 32) (y : IVec (Col N) 32) (hs : (Col N).Slices ![0, 0] (Col m))
    (hc : Shape.Concatenates [Col n, Col m] (Col N) 0) (hm : n + m = N) (r : Fin N) :
    concatenate (Col N) 0 [⟨Col n, x⟩, ⟨Col m, extractStridedSlice (Col m) ![0, 0] y hs⟩] hc (ix2 r 0)
      = if h : r.val < n then x (ix2 ⟨r.val, h⟩ 0) else y (ix2 ⟨r.val - n, by omega⟩ 0) := by
  by_cases h : r.val < n
  · rw [dif_pos h]
    refine concatenate_pair_apply_left 0 _ _ hc (ix2 r 0) rfl (ix2 ⟨r.val, h⟩ 0) fun b => ?_
    match b with
    | ⟨0, _⟩ => rfl
    | ⟨1, _⟩ => rfl
  · rw [dif_neg h]
    refine (concatenate_pair_apply_right 0 _ _ hc (ix2 r 0) rfl rfl (ix2 (⟨r.val - n, by omega⟩ : Fin m) 0) (fun b hb => ?_) ?_).trans ?_
    · match b with
      | ⟨0, _⟩ => exact absurd rfl hb
      | ⟨1, _⟩ => rfl
    · show r.val - n + n = r.val
      omega
    · refine extractStridedSlice_apply _ y hs _ _ fun a => ?_
      match a with
      | ⟨0, _⟩ => show r.val - n = 0 + (r.val - n); omega
      | ⟨1, _⟩ => rfl

/-- A column moved `n` places up, `x` moved in below, at an entry. -/
theorem up_apply {N n m : Nat} (x : IVec (Col n) 32) (y : IVec (Col N) 32) (hs : (Col N).Slices ![n, 0] (Col m))
    (hc : Shape.Concatenates [Col m, Col n] (Col N) 0) (hm : m + n = N) (r : Fin N) :
    concatenate (Col N) 0 [⟨Col m, extractStridedSlice (Col m) ![n, 0] y hs⟩, ⟨Col n, x⟩] hc (ix2 r 0)
      = if h : r.val + n < N then y (ix2 ⟨r.val + n, h⟩ 0) else x (ix2 ⟨r.val - m, by omega⟩ 0) := by
  by_cases h : r.val + n < N
  · rw [dif_pos h]
    refine (concatenate_pair_apply_left 0 _ _ hc (ix2 r 0) rfl (ix2 (⟨r.val, by omega⟩ : Fin m) 0) fun b => ?_).trans ?_
    · match b with
      | ⟨0, _⟩ => rfl
      | ⟨1, _⟩ => rfl
    · refine extractStridedSlice_apply _ y hs _ _ fun a => ?_
      match a with
      | ⟨0, _⟩ => show r.val + n = n + r.val; omega
      | ⟨1, _⟩ => rfl
  · rw [dif_neg h]
    refine concatenate_pair_apply_right 0 _ _ hc (ix2 r 0) rfl rfl (ix2 (⟨r.val - m, by omega⟩ : Fin n) 0) (fun b hb => ?_) ?_
    · match b with
      | ⟨0, _⟩ => exact absurd rfl hb
      | ⟨1, _⟩ => rfl
    · show r.val - m + m = r.val
      omega

/-- The start: a column whose entries are at least `c` bounds itself. -/
theorem below_one {N : Nat} {c : ℤ} {x : IVec (Col N) 32} (hx : ∀ r : Fin N, c ≤ (x (ix2 r 0)).toInt) : Below c x x 1 := by
  intro r z
  constructor
  · intro h
    refine ⟨(hx r).trans h, fun j h1 h2 => ?_⟩
    have : j = r := Fin.ext (by omega)
    rw [this]; exact h
  · exact fun h => h.2 r (le_refl _) (by omega)

/-- Before any step a column holds its own values. -/
theorem above_one {N : Nat} {c : ℤ} {x : IVec (Col N) 32} (hx : ∀ r : Fin N, (x (ix2 r 0)).toInt ≤ c) : Above c x x 1 := by
  intro r z
  constructor
  · intro h
    refine ⟨h.trans (hx r), fun j h1 h2 => ?_⟩
    have : j = r := Fin.ext (by omega)
    rw [this]; exact h
  · exact fun h => h.2 r (le_refl _) (by omega)

/-- One doubling step of the running maximum. -/
theorem below_step {N n m : Nat} {c : BitVec 32} {x y : IVec (Col N) 32} (hs : (Col N).Slices ![0, 0] (Col m))
    (hc : Shape.Concatenates [Col n, Col m] (Col N) 0) (hm : n + m = N) (h : Below c.toInt x y n) :
    Below c.toInt x (maxsi y (concatenate (Col N) 0 [⟨Col n, broadcast (Col n) c⟩, ⟨Col m, extractStridedSlice (Col m) ![0, 0] y hs⟩] hc)) (n + n) := by
  intro r z
  show (IntOp.maxsi (y (ix2 r 0)) _).toInt ≤ z ↔ _
  rw [toInt_maxsi_le, down_apply _ y hs hc hm r, h r z]
  by_cases hr : r.val < n
  · rw [dif_pos hr]
    show _ ∧ c.toInt ≤ z ↔ _
    exact ⟨fun H => ⟨H.2, fun j h1 h2 => H.1.2 j h1 (by omega)⟩, fun H => ⟨⟨H.1, fun j h1 h2 => H.2 j h1 (by omega)⟩, H.1⟩⟩
  · rw [dif_neg hr, h ⟨r.val - n, by omega⟩ z]
    constructor
    · rintro ⟨⟨h0, h1⟩, -, h2⟩
      refine ⟨h0, fun j ha hb => ?_⟩
      by_cases hj : r.val < j.val + n
      · exact h1 j ha hj
      · exact h2 j (show j.val ≤ r.val - n by omega) (show r.val - n < j.val + n by omega)
    · rintro ⟨h0, h1⟩
      exact ⟨⟨h0, fun j ha hb => h1 j ha (by omega)⟩, h0, fun j (ha : j.val ≤ r.val - n) (hb : r.val - n < j.val + n) => h1 j (by omega) (by omega)⟩

/-- One doubling step of the running minimum. -/
theorem above_step {N n m : Nat} {c : BitVec 32} {x y : IVec (Col N) 32} (hs : (Col N).Slices ![n, 0] (Col m))
    (hc : Shape.Concatenates [Col m, Col n] (Col N) 0) (hm : m + n = N) (h : Above c.toInt x y n) :
    Above c.toInt x (minsi y (concatenate (Col N) 0 [⟨Col m, extractStridedSlice (Col m) ![n, 0] y hs⟩, ⟨Col n, broadcast (Col n) c⟩] hc)) (n + n) := by
  intro r z
  show z ≤ (IntOp.minsi (y (ix2 r 0)) _).toInt ↔ _
  rw [le_toInt_minsi, up_apply _ y hs hc hm r, h r z]
  by_cases hr : r.val + n < N
  · rw [dif_pos hr, h ⟨r.val + n, hr⟩ z]
    constructor
    · rintro ⟨⟨h0, h1⟩, -, h2⟩
      refine ⟨h0, fun j ha hb => ?_⟩
      by_cases hj : j.val < r.val + n
      · exact h1 j ha hj
      · exact h2 j (show r.val + n ≤ j.val by omega) (show j.val < r.val + n + n by omega)
    · rintro ⟨h0, h1⟩
      exact ⟨⟨h0, fun j ha hb => h1 j ha (by omega)⟩, h0, fun j (ha : r.val + n ≤ j.val) (hb : j.val < r.val + n + n) => h1 j (by omega) (by omega)⟩
  · rw [dif_neg hr]
    show _ ∧ z ≤ c.toInt ↔ _
    exact ⟨fun H => ⟨H.2, fun j h1 h2 => H.1.2 j h1 (by omega)⟩, fun H => ⟨⟨H.1, fun j h1 h2 => H.2 j h1 (by omega)⟩, H.1⟩⟩

/-- The whole running maximum. -/
theorem below_all {N : Nat} {c : ℤ} {x y : IVec (Col N) 32} (h : Below c x y N) (r : Fin N) (z : ℤ) :
    (y (ix2 r 0)).toInt ≤ z ↔ c ≤ z ∧ ∀ j : Fin N, j.val ≤ r.val → (x (ix2 j 0)).toInt ≤ z :=
  (h r z).trans ⟨fun H => ⟨H.1, fun j hj => H.2 j hj (by omega)⟩, fun H => ⟨H.1, fun j hj _ => H.2 j hj⟩⟩

/-- The whole running minimum. -/
theorem above_all {N : Nat} {c : ℤ} {x y : IVec (Col N) 32} (h : Above c x y N) (r : Fin N) (z : ℤ) :
    z ≤ (y (ix2 r 0)).toInt ↔ z ≤ c ∧ ∀ j : Fin N, r.val ≤ j.val → z ≤ (x (ix2 j 0)).toInt :=
  (h r z).trans ⟨fun H => ⟨H.1, fun j hj => H.2 j hj (by omega)⟩, fun H => ⟨H.1, fun j hj _ => H.2 j hj⟩⟩

end Cert.Scan

end
-- ==== Proof.Value.Scene.lean ====
/- The scene of a frame. `IsStart bd r s` says that the word `s` is the last boundary up to frame `r` (−1 when there is none),
   `IsEnd bd r e` that `e` is the first boundary after `r` (4095 when there is none). The kernel's two chains of doublings
   compute them, from the column of a row's flags. -/
module

public import proofs.«01_k».proof.Proof.Value.Scan
public import proofs.«01_k».proof.Proof.KernelIdeal.Embed

@[expose] public section

set_option maxRecDepth 16384

noncomputable section

namespace Cert.Scene

open Idealize.ShloMosaic Cert.Scan

/-- `s` is the greatest boundary at or before `r`, or −1. -/
def IsStart (bd : Fin 4096 → Prop) (r : Fin 4096) (s : BitVec 32) : Prop :=
  ∀ z : ℤ, s.toInt ≤ z ↔ -1 ≤ z ∧ ∀ j : Fin 4096, j.val ≤ r.val → bd j → (j.val : ℤ) ≤ z

/-- `e` is the least boundary after `r`, or 4095. -/
def IsEnd (bd : Fin 4096 → Prop) (r : Fin 4096) (e : BitVec 32) : Prop :=
  ∀ z : ℤ, z ≤ e.toInt ↔ z ≤ 4095 ∧ ∀ j : Fin 4096, r.val < j.val → bd j → z ≤ (j.val : ℤ)

/-- A scene has one start word. -/
theorem IsStart.unique {bd : Fin 4096 → Prop} {r : Fin 4096} {s s' : BitVec 32} (h : IsStart bd r s) (h' : IsStart bd r s') : s = s' :=
  BitVec.eq_of_toInt_eq (le_antisymm ((h _).2 ((h' _).1 (le_refl _))) ((h' _).2 ((h _).1 (le_refl _))))

/-- A scene has one end word. -/
theorem IsEnd.unique {bd : Fin 4096 → Prop} {r : Fin 4096} {s s' : BitVec 32} (h : IsEnd bd r s) (h' : IsEnd bd r s') : s = s' :=
  BitVec.eq_of_toInt_eq (le_antisymm ((h' _).2 ((h _).1 (le_refl _))) ((h _).2 ((h' _).1 (le_refl _))))

/-- A frame's number as a word is that number. -/
theorem toInt_frame (j : Fin 4096) : (BitVec.ofNat 32 j.val).toInt = (j.val : ℤ) := by
  have := j.isLt
  rw [BitVec.toInt_eq_toNat_of_lt (by rw [BitVec.toNat_ofNat, Nat.mod_eq_of_lt] <;> omega), BitVec.toNat_ofNat, Nat.mod_eq_of_lt (by omega)]

/-- A frame's candidate for a scene's start or end: its number if it is a boundary, else a constant. -/
theorem cand (p : BitVec 1) (j : Fin 4096) (c : BitVec 32) :
    (Scalar.select p (BitVec.ofNat 32 j.val) c).toInt = if p = 1#1 then (j.val : ℤ) else c.toInt := by
  rcases BitVec.eq_zero_or_eq_one p with rfl | rfl
  · rw [ValueIdx.select_zero, if_neg (by decide)]
  · rw [ValueIdx.select_one, if_pos rfl, toInt_frame]

open Cert.KernelIdeal Cert.KernelIdeal.Gen

variable {F : FTy → Type} [FloatOps F]

/-- Frame `j` of a row's flags is a boundary. -/
def flagged (x : IVec S1x4096x1 32) (j : Fin 4096) : Prop :=
  IntOp.cmpi .sgt (x (ix3 0 j 0)) 0#32 = 1#1

/-- The candidates for the scenes' starts. -/
def startCand (x : Vec F S1x4096x1 .i32) : IVec S4096x1 32 :=
  select (cmpi .sgt (k1_pay2 x) (broadcast S4096x1 0#32)) (iota .tc S4096x1 32 [0] iota_S4096x1_d0_w32) (broadcast S4096x1 4294967295#32)

/-- The candidates for the scenes' ends. -/
def endCand (x : Vec F S1x4096x1 .i32) : IVec S4096x1 32 :=
  select (cmpi .sgt (k1_pay2 x) (broadcast S4096x1 0#32)) (iota .tc S4096x1 32 [0] iota_S4096x1_d0_w32) (broadcast S4096x1 4096#32)

/-- The block of flags as a column, at a frame. -/
theorem pay2_apply (x : Vec F S1x4096x1 .i32) (j : Fin 4096) : k1_pay2 x (ix2 j 0) = x (ix3 0 j 0) := by
  pointwise [k1_pay2]

/-- The column of frame numbers, at a frame. -/
theorem iota_at (j : Fin 4096) : iota .tc S4096x1 32 [0] iota_S4096x1_d0_w32 (ix2 j 0) = BitVec.ofNat 32 j.val := by
  pointwise

/-- A frame's candidate for a start: its number when flagged, else -1. -/
theorem startCand_apply (x : Vec F S1x4096x1 .i32) (j : Fin 4096) [Decidable (flagged x j)] :
    (startCand x (ix2 j 0)).toInt = if flagged x j then (j.val : ℤ) else -1 := by
  show (Scalar.select (IntOp.cmpi .sgt (k1_pay2 x (ix2 j 0)) 0#32) (iota .tc S4096x1 32 [0] iota_S4096x1_d0_w32 (ix2 j 0)) 4294967295#32).toInt = _
  rw [iota_at, cand, pay2_apply]
  exact if_congr Iff.rfl rfl (by decide)

/-- A frame's candidate for an end: its number when flagged, else 4096. -/
theorem endCand_apply (x : Vec F S1x4096x1 .i32) (j : Fin 4096) [Decidable (flagged x j)] :
    (endCand x (ix2 j 0)).toInt = if flagged x j then (j.val : ℤ) else 4096 := by
  show (Scalar.select (IntOp.cmpi .sgt (k1_pay2 x (ix2 j 0)) 0#32) (iota .tc S4096x1 32 [0] iota_S4096x1_d0_w32 (ix2 j 0)) 4096#32).toInt = _
  rw [iota_at, cand, pay2_apply]
  exact if_congr Iff.rfl rfl (by decide)

/-- Nine doublings of the starts. -/
theorem pay3_below (x : Vec F S1x4096x1 .i32) : Below (4294967295#32).toInt (startCand x) (k1_pay3 x) 512 := by
  have h0 : Below (4294967295#32).toInt (startCand x) (startCand x) 1 := below_one fun r => by
    classical
    rw [startCand_apply]
    split
    · exact le_trans (by decide : (4294967295#32 : BitVec 32).toInt ≤ 0) (by omega)
    · decide
  have h1 := below_step slices_S4096x1_o0_0_S4095x1 concatenates_S1x1_S4095x1_S4096x1_d0 rfl h0
  have h2 := below_step slices_S4096x1_o0_0_S4094x1 concatenates_S2x1_S4094x1_S4096x1_d0 rfl h1
  have h3 := below_step slices_S4096x1_o0_0_S4092x1 concatenates_S4x1_S4092x1_S4096x1_d0 rfl h2
  have h4 := below_step slices_S4096x1_o0_0_S4088x1 concatenates_S8x1_S4088x1_S4096x1_d0 rfl h3
  have h5 := below_step slices_S4096x1_o0_0_S4080x1 concatenates_S16x1_S4080x1_S4096x1_d0 rfl h4
  have h6 := below_step slices_S4096x1_o0_0_S4064x1 concatenates_S32x1_S4064x1_S4096x1_d0 rfl h5
  have h7 := below_step slices_S4096x1_o0_0_S4032x1 concatenates_S64x1_S4032x1_S4096x1_d0 rfl h6
  have h8 := below_step slices_S4096x1_o0_0_S3968x1 concatenates_S128x1_S3968x1_S4096x1_d0 rfl h7
  exact below_step slices_S4096x1_o0_0_S3840x1 concatenates_S256x1_S3840x1_S4096x1_d0 rfl h8

/-- All twelve. -/
theorem pay5_below (x : Vec F S1x4096x1 .i32) : Below (4294967295#32).toInt (startCand x) (k1_pay5 (k1_pay3 x) k1_pay4) 4096 := by
  have h1 := below_step slices_S4096x1_o0_0_S3584x1 concatenates_S512x1_S3584x1_S4096x1_d0 rfl (pay3_below x)
  have h2 := below_step slices_S4096x1_o0_0_S3072x1 concatenates_S1024x1_S3072x1_S4096x1_d0 rfl h1
  exact below_step slices_S4096x1_o0_0_S2048x1 concatenates_S2048x1_S2048x1_S4096x1_d0 rfl h2

/-- The kernel's start column holds the scenes' starts. -/
theorem start_isStart (x : Vec F S1x4096x1 .i32) (r : Fin 4096) :
    IsStart (flagged x) r (k1_pay5 (k1_pay3 x) k1_pay4 (ix2 r 0)) := by
  classical
  intro z
  rw [below_all (pay5_below x) r z, show (4294967295#32 : BitVec 32).toInt = -1 by decide]
  refine and_congr_right fun hz => forall_congr' fun j => forall_congr' fun _ => ?_
  rw [startCand_apply]
  by_cases h : flagged x j
  · simp [h]
  · simp [h, hz]

/-- The kernel's end column, from the candidates' seven doublings on. -/
def endCol (v89 : IVec S4096x1 32) : IVec S4096x1 32 :=
  have v92 : IVec S4096x1 32 := concatenate S4096x1 0 [⟨S3968x1, extractStridedSlice S3968x1 ![128, 0] v89 slices_S4096x1_o128_0_S3968x1⟩, ⟨S128x1, broadcast S128x1 4096#32⟩] concatenates_S3968x1_S128x1_S4096x1_d0
  have v93 : IVec S4096x1 32 := minsi v89 v92
  have v96 : IVec S4096x1 32 := concatenate S4096x1 0 [⟨S3840x1, extractStridedSlice S3840x1 ![256, 0] v93 slices_S4096x1_o256_0_S3840x1⟩, ⟨S256x1, broadcast S256x1 4096#32⟩] concatenates_S3840x1_S256x1_S4096x1_d0
  have v97 : IVec S4096x1 32 := minsi v93 v96
  have v100 : IVec S4096x1 32 := concatenate S4096x1 0 [⟨S3584x1, extractStridedSlice S3584x1 ![512, 0] v97 slices_S4096x1_o512_0_S3584x1⟩, ⟨S512x1, broadcast S512x1 4096#32⟩] concatenates_S3584x1_S512x1_S4096x1_d0
  have v101 : IVec S4096x1 32 := minsi v97 v100
  have v104 : IVec S4096x1 32 := concatenate S4096x1 0 [⟨S3072x1, extractStridedSlice S3072x1 ![1024, 0] v101 slices_S4096x1_o1024_0_S3072x1⟩, ⟨S1024x1, broadcast S1024x1 4096#32⟩] concatenates_S3072x1_S1024x1_S4096x1_d0
  have v105 : IVec S4096x1 32 := minsi v101 v104
  have v108 : IVec S4096x1 32 := concatenate S4096x1 0 [⟨S2048x1, extractStridedSlice S2048x1 ![2048, 0] v105 slices_S4096x1_o2048_0_S2048x1⟩, ⟨S2048x1, broadcast S2048x1 4096#32⟩] concatenates_S2048x1_S2048x1_S4096x1_d0
  have v109 : IVec S4096x1 32 := minsi v105 v108
  minsi v109 (broadcast S4096x1 4095#32)

/-- The candidates for the ends, moved up by one frame. -/
def endNext (x : Vec F S1x4096x1 .i32) : IVec S4096x1 32 :=
  concatenate S4096x1 0 [⟨S4095x1, extractStridedSlice S4095x1 ![1, 0] (endCand x) slices_S4096x1_o1_0_S4095x1⟩, ⟨S1x1, broadcast S1x1 4096#32⟩] concatenates_S4095x1_S1x1_S4096x1_d0

/-- The candidates for an end, moved up by one frame. -/
theorem endNext_apply (x : Vec F S1x4096x1 .i32) (r : Fin 4096) :
    (endNext x (ix2 r 0)).toInt = if h : r.val + 1 < 4096 then (endCand x (ix2 ⟨r.val + 1, h⟩ 0)).toInt else 4096 := by
  unfold endNext
  rw [up_apply (n := 1) (m := 4095) _ (endCand x) slices_S4096x1_o1_0_S4095x1 concatenates_S4095x1_S1x1_S4096x1_d0 rfl r]
  by_cases h : r.val + 1 < 4096
  · rw [dif_pos h, dif_pos h]
  · rw [dif_neg h, dif_neg h]; rfl

/-- After the first seven steps a frame holds the least candidate among the next 128 frames. -/
theorem pay6_above (x : Vec F S1x4096x1 .i32) :
    Above (4096#32).toInt (endNext x) (k1_pay6 (k1_pay2 x) (iota .tc S4096x1 32 [0] iota_S4096x1_d0_w32)) 128 := by
  have h0 : Above (4096#32).toInt (endNext x) (endNext x) 1 := above_one fun r => by
    classical
    rw [endNext_apply]
    split
    · rw [endCand_apply]
      split
      · exact le_trans (by omega) (by decide : (4096 : ℤ) ≤ (4096#32 : BitVec 32).toInt)
      · decide
    · decide
  have h1 := above_step slices_S4096x1_o1_0_S4095x1 concatenates_S4095x1_S1x1_S4096x1_d0 rfl h0
  have h2 := above_step slices_S4096x1_o2_0_S4094x1 concatenates_S4094x1_S2x1_S4096x1_d0 rfl h1
  have h3 := above_step slices_S4096x1_o4_0_S4092x1 concatenates_S4092x1_S4x1_S4096x1_d0 rfl h2
  have h4 := above_step slices_S4096x1_o8_0_S4088x1 concatenates_S4088x1_S8x1_S4096x1_d0 rfl h3
  have h5 := above_step slices_S4096x1_o16_0_S4080x1 concatenates_S4080x1_S16x1_S4096x1_d0 rfl h4
  have h6 := above_step slices_S4096x1_o32_0_S4064x1 concatenates_S4064x1_S32x1_S4096x1_d0 rfl h5
  exact above_step slices_S4096x1_o64_0_S4032x1 concatenates_S4032x1_S64x1_S4096x1_d0 rfl h6

/-- After the last five steps, and the cut at 4095, it holds the least candidate of all the frames after it. -/
theorem endCol_above {x y : IVec S4096x1 32} (h : Above (4096#32).toInt x y 128) (r : Fin 4096) (z : ℤ) :
    z ≤ (endCol y (ix2 r 0)).toInt ↔ (z ≤ 4096 ∧ ∀ j : Fin 4096, r.val ≤ j.val → z ≤ (x (ix2 j 0)).toInt) ∧ z ≤ 4095 := by
  have h1 := above_step slices_S4096x1_o128_0_S3968x1 concatenates_S3968x1_S128x1_S4096x1_d0 rfl h
  have h2 := above_step slices_S4096x1_o256_0_S3840x1 concatenates_S3840x1_S256x1_S4096x1_d0 rfl h1
  have h3 := above_step slices_S4096x1_o512_0_S3584x1 concatenates_S3584x1_S512x1_S4096x1_d0 rfl h2
  have h4 := above_step slices_S4096x1_o1024_0_S3072x1 concatenates_S3072x1_S1024x1_S4096x1_d0 rfl h3
  have h5 := above_step slices_S4096x1_o2048_0_S2048x1 concatenates_S2048x1_S2048x1_S4096x1_d0 rfl h4
  refine (le_toInt_minsi _ _ z).trans (and_congr (above_all h5 r z) ?_)
  show z ≤ (4095#32 : BitVec 32).toInt ↔ _
  rw [show (4095#32 : BitVec 32).toInt = 4095 by decide]

/-- The kernel's end column holds the scenes' ends. -/
theorem end_isEnd (x : Vec F S1x4096x1 .i32) (r : Fin 4096) :
    IsEnd (flagged x) r (endCol (k1_pay6 (k1_pay2 x) (iota .tc S4096x1 32 [0] iota_S4096x1_d0_w32)) (ix2 r 0)) := by
  classical
  intro z
  rw [endCol_above (pay6_above x) r z]
  constructor
  · rintro ⟨⟨-, h⟩, h5⟩
    refine ⟨h5, fun j hj hb => ?_⟩
    have := h ⟨j.val - 1, by omega⟩ (show r.val ≤ j.val - 1 by omega)
    rw [endNext_apply, dif_pos (show j.val - 1 + 1 < 4096 by omega), endCand_apply] at this
    have e : (⟨j.val - 1 + 1, by omega⟩ : Fin 4096) = j := Fin.ext (by show j.val - 1 + 1 = j.val; omega)
    rw [e, if_pos hb] at this
    exact this
  · rintro ⟨h5, h⟩
    refine ⟨⟨by omega, fun j hj => ?_⟩, h5⟩
    rw [endNext_apply]
    split
    · next hlt =>
      rw [endCand_apply]
      split
      · next hb => exact h _ (show r.val < j.val + 1 by omega) hb
      · omega
    · omega

end Cert.Scene

end
-- ==== Proof.Value.KernelRow.lean ====
/- The row that a point of the kernel's second region stores, at an index, from the blocks it reads. -/
module

public import proofs.«01_k».proof.Proof.Value.Scene
public import Idealize.ShloMosaic.PureOps.Ideal.Laws
public import Idealize.ShloMosaic.Lib.Pipeline.ValueKit

@[expose] public section

set_option maxRecDepth 16384

noncomputable section

namespace Cert.KernelRow

open Idealize.ShloMosaic Idealize.ShloMosaic.TcCoe Cert.Scene
open Cert.KernelIdeal Cert.KernelIdeal.Gen Cert.KernelIdeal.Run

/-- The quotient of two words. -/
def quot (n d : BitVec 32) : EReal := FloatOps.divf (F := Ideal) (φ := .f32) (FloatOps.sitofp .f32 n) (FloatOps.sitofp .f32 d)

/-- A hidden unit before its activation, from the scene's start and end, the frame, two weights and a bias. -/
def pre (s e r : BitVec 32) (w w' b : EReal) : EReal :=
  quot (IntOp.subi r s) (IntOp.maxsi (IntOp.subi e s) 1#32) * w + quot (IntOp.subi e r) (IntOp.maxsi (IntOp.subi e s) 1#32) * w' + b

/-- The kernel's activation. -/
def act (x : EReal) : EReal :=
  Ideal.ofBits .f32 0x3F000000#32 * x * (1 + FloatOps.erf (F := Ideal) (φ := .f32) (x * Ideal.ofBits .f32 0x3F3504F3#32))

/-- The angle of a position's pair `j` of coordinates. -/
def angle (n : BitVec 32) (d : EReal) : EReal := FloatOps.sitofp (F := Ideal) .f32 n * d

/-- The first layer over a block, in terms of the column of scene ends. -/
theorem pay8_col (v2 v54 v89 : IVec S4096x1 32) (r : Fin 4096) (k : Fin 128) (w w' b : Vec Ideal S1x128 .f32) (e : IVec S4096x1 32)
    (he : e = endCol v89) :
    k1_pay8 (F := Ideal) v2 v54 v89 (extractStridedSlice S3968x1 ![128, 0] v89 slices_S4096x1_o128_0_S3968x1) 4096#32 w w' b (ix2 r k)
      = (addf (addf (mulf (broadcastTo S4096x128 (divf (sitofp .f32 (subi v2 v54)) (sitofp .f32 (maxsi (subi e v54) (broadcast S4096x1 1#32)))) broadcasts_S4096x1_S4096x128)
            (broadcastTo S4096x128 (shapeCast S1x128 w shapeCasts_S1x128_S1x128) broadcasts_S1x128_S4096x128))
          (mulf (broadcastTo S4096x128 (divf (sitofp .f32 (subi e v2)) (sitofp .f32 (maxsi (subi e v54) (broadcast S4096x1 1#32)))) broadcasts_S4096x1_S4096x128)
            (broadcastTo S4096x128 (shapeCast S1x128 w' shapeCasts_S1x128_S1x128) broadcasts_S1x128_S4096x128)))
        (broadcastTo S4096x128 (shapeCast S1x128 b shapeCasts_S1x128_S1x128) broadcasts_S1x128_S4096x128)) (ix2 r k) := by
  subst he
  rfl

/-- The first layer, at a frame and a hidden unit. -/
theorem pay8_at (v2 v54 v89 : IVec S4096x1 32) (r : Fin 4096) (k : Fin 128) (w w' b : Vec Ideal S1x128 .f32) :
    k1_pay8 (F := Ideal) v2 v54 v89 (extractStridedSlice S3968x1 ![128, 0] v89 slices_S4096x1_o128_0_S3968x1) 4096#32 w w' b (ix2 r k)
      = pre (v54 (ix2 r 0)) (endCol v89 (ix2 r 0)) (v2 (ix2 r 0)) (w (ix2 0 k)) (w' (ix2 0 k)) (b (ix2 0 k)) := by
  generalize he : endCol v89 = e
  rw [pay8_col v2 v54 v89 r k w w' b e he.symm]
  pointwise
  rfl

/-- The activation, at a frame and a hidden unit. -/
theorem pay10_at (x : FVec Ideal S4096x128 .f32) (r : Fin 4096) (k : Fin 128) : k1_pay10 x k1_pay9 (ix2 r k) = act (x (ix2 r k)) := by
  pointwise [k1_pay10, k1_pay9]
  rfl

/-- The angles, at a frame and a pair of coordinates. -/
theorem pay11_at (tp : Vec Ideal S1x4096x1 .f32) (d : Vec Ideal S1x64 .f32) (r : Fin 4096) (j : Fin 64) :
    k1_pay11 tp d (ix2 r j) = angle (IntOp.minsi 4499#32 (IntOp.maxsi 0#32 (FloatOps.fptosi (F := Ideal) (φ := .f32) 32
      (FloatOps.mulf (F := Ideal) (φ := .f32) (tp (ix3 0 r 0)) (FloatOps.ofBits .f32 0x458C9800#32))))) (d (ix2 0 j)) := by
  pointwise [k1_pay11]
  rfl

/-- The second layer's weights times the mixing weights. -/
theorem pay12_at (a : Vec Ideal S128x128 .f32) (b : Vec Ideal S128x256 .f32) (k : Fin 128) (o : Fin 256) :
    k1_pay12 a b (ix2 k o) = ∑ l : Fin 128, (a (ix2 k l) * b (ix2 l o) : EReal) := by
  pointwise [k1_pay12]

/-- The second layer's bias carried through the mixing layer. -/
theorem pay13_at (a : Vec Ideal S1x128 .f32) (b : Vec Ideal S128x256 .f32) (d : Vec Ideal S1x256 .f32) (o : Fin 256) :
    k1_pay13 a b d (ix2 0 o) = ∑ l : Fin 128, (a (ix2 0 l) * b (ix2 l o) : EReal) + d (ix2 0 o) := by
  pointwise [k1_pay13]

/-- The sines of the angles. -/
theorem pay14_at (tp : Vec Ideal S1x4096x1 .f32) (d : Vec Ideal S1x64 .f32) (r : Fin 4096) (j : Fin 64) :
    k1_pay14 tp d (ix2 r j) = Ideal.sin (k1_pay11 tp d (ix2 r j)) := by
  pointwise [k1_pay14]

/-- What is stored, from the pieces. -/
theorem pay1_at (v144 : FVec Ideal S4096x128 .f32) (v158 : FVec Ideal S4096x64 .f32) (v163 : FVec Ideal S128x256 .f32) (v171 : FVec Ideal S1x256 .f32)
    (v172 : FVec Ideal S4096x64 .f32) (v173 v177 : Vec Ideal S64x256 .f32) (r : Fin 4096) (o : Fin 256) :
    k1_pay1 v144 v158 v163 v171 v172 v173 v177 (ix3 0 r o)
      = ∑ j : Fin 64, (v172 (ix2 r j) * v173 (ix2 j o) : EReal) + ∑ j : Fin 64, (Ideal.cos (v158 (ix2 r j)) * v177 (ix2 j o) : EReal)
        + ∑ k : Fin 128, (v144 (ix2 r k) * v163 (ix2 k o) : EReal) + v171 (ix2 0 o) := by
  pointwise [k1_pay1]

/-- What a point stores for frame `r`, output coordinate `o`. -/
theorem out_at (x0 : Vec Ideal S1x4096x1 .i32) (x1 : Vec Ideal S1x4096x1 .f32) (x2 x3 x4 : Vec Ideal S1x128 .f32) (x5 : Vec Ideal S1x64 .f32)
    (x6 x7 : Vec Ideal S64x256 .f32) (x8 : Vec Ideal S128x128 .f32) (x9 : Vec Ideal S128x256 .f32) (x10 : Vec Ideal S1x128 .f32)
    (x11 : Vec Ideal S1x256 .f32) (r : Fin 4096) (o : Fin 256) (bd : Fin 4096 → Prop) (hbd : ∀ j, flagged x0 j ↔ bd j) (s e : BitVec 32)
    (hs : IsStart bd r s) (he : IsEnd bd r e) (n : BitVec 32) (hn : n = IntOp.minsi 4499#32 (IntOp.maxsi 0#32 (FloatOps.fptosi (F := Ideal) (φ := .f32) 32
      (FloatOps.mulf (F := Ideal) (φ := .f32) (x1 (ix3 0 r 0)) (FloatOps.ofBits .f32 0x458C9800#32))))) :
    out1_12 x0 x1 x2 x3 x4 x5 x6 x7 x8 x9 x10 x11 (ix3 0 r o)
      = ∑ j : Fin 64, (Ideal.sin (angle n (x5 (ix2 0 j))) * x6 (ix2 j o) : EReal) + ∑ j : Fin 64, (Ideal.cos (angle n (x5 (ix2 0 j))) * x7 (ix2 j o) : EReal)
        + ∑ k : Fin 128, act (pre s e (BitVec.ofNat 32 r.val) (x2 (ix2 0 k)) (x3 (ix2 0 k)) (x4 (ix2 0 k)))
            * (∑ l : Fin 128, (x8 (ix2 k l) * x9 (ix2 l o) : EReal))
        + (∑ l : Fin 128, (x10 (ix2 0 l) * x9 (ix2 l o) : EReal) + x11 (ix2 0 o)) := by
  have hfl : flagged x0 = bd := funext fun j => propext (hbd j)
  have e1 : k1_pay5 (k1_pay3 x0) k1_pay4 (ix2 r 0) = s := (hfl ▸ start_isStart x0 r).unique hs
  have e2 : endCol (k1_pay6 (k1_pay2 x0) (iota .tc S4096x1 32 [0] iota_S4096x1_d0_w32)) (ix2 r 0) = e := (hfl ▸ end_isEnd x0 r).unique he
  unfold out1_12
  frame_out
  rw [pay1_at]
  simp only [pay14_at, pay11_at, ← hn, pay10_at, pay12_at, pay13_at]
  unfold k1_pay7 k1_pay16 k1_pay15
  frame_out
  have e3 : iota .tc S4096x1 32 [0] iota_S4096x1_d0_w32 (ix2 r 0) = BitVec.ofNat 32 r.val := iota_at r
  simp only [pay8_at, e1, e2, e3]

end Cert.KernelRow

end
-- ==== Proof.Value.HostOps.lean ====
/- Five of the reference's operations at an index: the running maximum and minimum along the second axis of a matrix, a
   conjunction of bits that are all one, the scatters that set one entry of a vector and the columns of a matrix from the
   second on, and the take of rows of a table. -/
module

public import proofs.«01_k».proof.Proof.Value.Scan
public import Idealize.ShloMosaic.Lib.Routing.OpsSet
public import Idealize.ShloMosaic.Lib.Pointwise.IndexBridge

@[expose] public section

set_option maxRecDepth 16384

namespace Cert.HostOps

open Idealize.ShloMosaic Cert.Scan

/-- A left fold of maxima is at most `z` when the initial value and every entry are. -/
theorem foldl_maxsi_le {ι : Type} (l : List ι) (g : ι → BitVec 32) (a : BitVec 32) (z : ℤ) :
    (l.foldl (fun r n => IntOp.maxsi r (g n)) a).toInt ≤ z ↔ a.toInt ≤ z ∧ ∀ n ∈ l, (g n).toInt ≤ z := by
  induction l generalizing a with
  | nil => simp
  | cons n l ih => rw [List.foldl_cons, ih, toInt_maxsi_le, List.forall_mem_cons, and_assoc]

/-- A left fold of minima is at least `z` when the initial value and every entry are. -/
theorem le_foldl_minsi {ι : Type} (l : List ι) (g : ι → BitVec 32) (a : BitVec 32) (z : ℤ) :
    z ≤ (l.foldl (fun r n => IntOp.minsi r (g n)) a).toInt ↔ z ≤ a.toInt ∧ ∀ n ∈ l, z ≤ (g n).toInt := by
  induction l generalizing a with
  | nil => simp
  | cons n l ih => rw [List.foldl_cons, ih, le_toInt_minsi, List.forall_mem_cons, and_assoc]

/-- The entries a window of the whole length, padded low by one less, meets: those up to `j` of row `b`, and padding. -/
theorem window_forall {A N M : Nat} (hN : M + 1 = N) (x : IVec (⟨2, ![A, N]⟩ : Shape) 32) (v : BitVec 32) (P : BitVec 32 → Prop) (hv : P v)
    (b : Fin A) (j : Fin N) (g : Fin (⟨2, ![1, N]⟩ : Shape).numel → BitVec 32)
    (g1 : ∀ n (i : Fin N), i.val + M = j.val + ((⟨2, ![1, N]⟩ : Shape).rowMajor.symm n 1).val → g n = x (ix2 b i))
    (g2 : ∀ n, ¬ (M ≤ j.val + ((⟨2, ![1, N]⟩ : Shape).rowMajor.symm n 1).val ∧ j.val + ((⟨2, ![1, N]⟩ : Shape).rowMajor.symm n 1).val - M < N) → g n = v) :
    (∀ n, P (g n)) ↔ ∀ i : Fin N, i.val ≤ j.val → P (x (ix2 b i)) := by
  have hj := j.isLt
  constructor
  · intro H i hi
    have := H ((⟨2, ![1, N]⟩ : Shape).rowMajor (ix2 0 ⟨i.val + M - j.val, by omega⟩))
    rwa [g1 _ i] at this
    rw [Equiv.symm_apply_apply]
    show i.val + M = j.val + (i.val + M - j.val)
    omega
  · intro H n
    have w1 : ((⟨2, ![1, N]⟩ : Shape).rowMajor.symm n 1).val < N := ((⟨2, ![1, N]⟩ : Shape).rowMajor.symm n 1).isLt
    by_cases hin : M ≤ j.val + ((⟨2, ![1, N]⟩ : Shape).rowMajor.symm n 1).val
      ∧ j.val + ((⟨2, ![1, N]⟩ : Shape).rowMajor.symm n 1).val - M < N
    · rw [g1 n ⟨j.val + ((⟨2, ![1, N]⟩ : Shape).rowMajor.symm n 1).val - M, hin.2⟩ (by dsimp only; omega)]
      exact H _ (by dsimp only; omega)
    · rw [g2 n hin]
      exact hv

/-- Such a window's entry at a position inside the matrix. -/
theorem window_in {A N M : Nat} (b : Fin A) (j i : Fin N) (w : (⟨2, ![1, N]⟩ : Shape).Idx) (hw : i.val + M = j.val + (w 1).val) :
    ∀ a : Fin 2, (![0, M] : Fin 2 → Nat) a ≤ ((ix2 b j : (⟨2, ![A, N]⟩ : Shape).Idx) a).val * (![1, 1] : Fin 2 → Nat) a + (w a).val
      ∧ ((ix2 b j : (⟨2, ![A, N]⟩ : Shape).Idx) a).val * (![1, 1] : Fin 2 → Nat) a + (w a).val - (![0, M] : Fin 2 → Nat) a
        = ((ix2 b i : (⟨2, ![A, N]⟩ : Shape).Idx) a).val := by
  have w0 : (w 0).val < 1 := (w 0).isLt
  intro a
  match a with
  | ⟨0, _⟩ => show 0 ≤ b.val * 1 + (w 0).val ∧ b.val * 1 + (w 0).val - 0 = b.val; omega
  | ⟨1, _⟩ => show M ≤ j.val * 1 + (w 1).val ∧ j.val * 1 + (w 1).val - M = i.val; omega

/-- The running maximum along the rows. -/
theorem cummax_le {A N M : Nat} (hN : M + 1 = N) (x : IVec (⟨2, ![A, N]⟩ : Shape) 32) (init : IVec (⟨0, ![]⟩ : Shape) 32)
    (h : (⟨2, ![A, N]⟩ : Shape).ReduceWindows (![1, N] : Fin 2 → Nat) ![1, 1] ![0, M] ![0, 0] (⟨2, ![A, N]⟩ : Shape))
    (hu : 0 < (⟨0, ![]⟩ : Shape).numel) (b : Fin A) (j : Fin N) (z : ℤ) :
    (Host.reduceWindow IntOp.maxsi ![1, N] ![1, 1] ![0, M] ![0, 0] x init h hu (ix2 b j)).toInt ≤ z
      ↔ (init (Shape.Idx.first hu)).toInt ≤ z ∧ ∀ i : Fin N, i.val ≤ j.val → (x (ix2 b i)).toInt ≤ z := by
  unfold Host.reduceWindow
  refine (foldl_maxsi_le _ _ _ z).trans (and_congr_right fun hv => ?_)
  refine Iff.trans ⟨fun H n => H n (List.mem_finRange n), fun H n _ => H n⟩
    (window_forall hN x (init (Shape.Idx.first hu)) (fun w => w.toInt ≤ z) hv b j _ (fun n i hi => ?_) fun n hn => ?_)
  · have hin := window_in b j i ((⟨2, ![1, N]⟩ : Shape).rowMajor.symm n) hi
    refine (dif_pos fun a => ⟨(hin a).1, ?_⟩).trans (congrArg x (funext fun a => Fin.ext (hin a).2))
    exact (hin a).2 ▸ (ix2 b i a).isLt
  · refine dif_neg fun hin => hn ?_
    have h1 : M ≤ j.val * 1 + ((⟨2, ![1, N]⟩ : Shape).rowMajor.symm n 1).val
      ∧ j.val * 1 + ((⟨2, ![1, N]⟩ : Shape).rowMajor.symm n 1).val - M < N := hin 1
    omega

/-- The running minimum along the rows. -/
theorem le_cummin {A N M : Nat} (hN : M + 1 = N) (x : IVec (⟨2, ![A, N]⟩ : Shape) 32) (init : IVec (⟨0, ![]⟩ : Shape) 32)
    (h : (⟨2, ![A, N]⟩ : Shape).ReduceWindows (![1, N] : Fin 2 → Nat) ![1, 1] ![0, M] ![0, 0] (⟨2, ![A, N]⟩ : Shape))
    (hu : 0 < (⟨0, ![]⟩ : Shape).numel) (b : Fin A) (j : Fin N) (z : ℤ) :
    z ≤ (Host.reduceWindow IntOp.minsi ![1, N] ![1, 1] ![0, M] ![0, 0] x init h hu (ix2 b j)).toInt
      ↔ z ≤ (init (Shape.Idx.first hu)).toInt ∧ ∀ i : Fin N, i.val ≤ j.val → z ≤ (x (ix2 b i)).toInt := by
  unfold Host.reduceWindow
  refine (le_foldl_minsi _ _ _ z).trans (and_congr_right fun hv => ?_)
  refine Iff.trans ⟨fun H n => H n (List.mem_finRange n), fun H n _ => H n⟩
    (window_forall hN x (init (Shape.Idx.first hu)) (fun w => z ≤ w.toInt) hv b j _ (fun n i hi => ?_) fun n hn => ?_)
  · have hin := window_in b j i ((⟨2, ![1, N]⟩ : Shape).rowMajor.symm n) hi
    refine (dif_pos fun a => ⟨(hin a).1, ?_⟩).trans (congrArg x (funext fun a => Fin.ext (hin a).2))
    exact (hin a).2 ▸ (ix2 b i a).isLt
  · refine dif_neg fun hin => hn ?_
    have h1 : M ≤ j.val * 1 + ((⟨2, ![1, N]⟩ : Shape).rowMajor.symm n 1).val
      ∧ j.val * 1 + ((⟨2, ![1, N]⟩ : Shape).rowMajor.symm n 1).val - M < N := hin 1
    omega

/-- A conjunction of bits that are all one is one. -/
theorem reduce_andi_one {s t u : Shape} {axes : List (Fin s.rank)} (x : IVec s 1) (init : IVec u 1) (h : s.ReducesTo axes t) (hu : 0 < u.numel)
    (hi : init (Shape.Idx.first hu) = 1#1) (hx : ∀ i, x i = 1#1) (j : t.Idx) : Host.reduce IntOp.andi x init h hu j = 1#1 := by
  unfold Host.reduce
  rw [hi]
  generalize List.filter _ _ = l
  induction l with
  | nil => rfl
  | cons n l ih => rw [List.foldl_cons, hx]; exact ih

/-- The dimension numbers of a scatter of one scalar into a vector. -/
theorem set_entry {N : Nat} {α : Type} (d : ScatterDims (⟨1, ![N]⟩ : Shape) (⟨1, ![1]⟩ : Shape) (⟨0, ![]⟩ : Shape)) (hu : d.updateWindowDims = [])
    (hi : d.insertedWindowDims = [0]) (hs : d.scatterDimsToOperandDims = [0]) (hv : d.indexVectorDim = 0)
    (x : (⟨1, ![N]⟩ : Shape).Idx → α) (idx : IVec (⟨1, ![1]⟩ : Shape) 32) (upd : (⟨0, ![]⟩ : Shape).Idx → α) (e : Fin N) (k : BitVec 32)
    (hidx : ∀ i, idx i = k) (v : α) (hupd : ∀ i, upd i = v) [Decidable (k.toInt = (e.val : ℤ))] :
    Host.scatter d (fun _ b => b) x idx upd (ix1 e) = if k.toInt = (e.val : ℤ) then v else x (ix1 e) := by
  have key : ∀ p : (⟨0, ![]⟩ : Shape).Idx, d.resultIdx? p idx = some (ix1 e) ↔ k.toInt = (e.val : ℤ) := fun p => by
    rw [Routing.resultIdx?_eq_some]
    have hm : (0 : Fin 1) ∈ d.scatterDimsToOperandDims := by rw [hs]; exact List.mem_singleton.2 rfl
    have hw : d.window p 0 = 0 := by
      unfold ScatterDims.window
      rw [dif_neg fun h => (of_decide_eq_true (List.mem_filter.1 h).2) (by rw [hi]; exact List.mem_singleton.2 rfl)]
    have hst : d.start p idx 0 = k.toInt := by
      unfold ScatterDims.start
      rw [dif_pos hm, hidx]
    constructor
    · intro H
      have := H 0
      rw [hw, hst] at this
      have e0 : ((ix1 e : (⟨1, ![N]⟩ : Shape).Idx) 0).val = e.val := rfl
      rw [e0] at this
      omega
    · intro H a
      match a with
      | ⟨0, _⟩ =>
        show d.start p idx 0 + (d.window p 0 : ℤ) = (e.val : ℤ)
        rw [hw, hst, H]
        omega
  split
  · next he => exact Routing.scatter_set_hit d x idx upd _ v (fun p _ => hupd p) ix0 ((key _).2 he)
  · next he => exact Routing.scatter_set_miss d x idx upd _ fun p hp => he ((key p).1 hp)

/-- The scatter of a matrix over the columns of another from column 1 on: column 0 stays. -/
theorem set_columns {A N M : Nat} {α : Type} (hN : M + 1 = N) (d : ScatterDims (⟨2, ![A, N]⟩ : Shape) (⟨1, ![1]⟩ : Shape) (⟨2, ![A, M]⟩ : Shape))
    (hu : d.updateWindowDims = [0, 1]) (hi : d.insertedWindowDims = []) (hs : d.scatterDimsToOperandDims = [1]) (hv : d.indexVectorDim = 0)
    (x : (⟨2, ![A, N]⟩ : Shape).Idx → α) (idx : IVec (⟨1, ![1]⟩ : Shape) 32) (upd : (⟨2, ![A, M]⟩ : Shape).Idx → α) (b : Fin A) (j : Fin N)
    (hidx : ∀ i, idx i = 1#32) :
    Host.scatter d (fun _ b => b) x idx upd (ix2 b j) = if h : 0 < j.val then upd (ix2 b ⟨j.val - 1, by omega⟩) else x (ix2 b j) := by
  have key : ∀ p : (⟨2, ![A, M]⟩ : Shape).Idx, d.resultIdx? p idx = some (ix2 b j) ↔ (p 0).val = b.val ∧ 1 + (p 1).val = j.val := fun p => by
    obtain ⟨uw, iw, sd, iv, wf⟩ := d
    dsimp only at hu hi hs hv
    subst hu hi hs hv
    rw [Routing.resultIdx?_eq_some]
    have s1 : ScatterDims.start ⟨[0, 1], [], [1], 0, wf⟩ p idx 1 = 1 := by
      unfold ScatterDims.start
      rw [dif_pos (List.mem_singleton.2 rfl), hidx]; rfl
    have s0 : ScatterDims.start ⟨[0, 1], [], [1], 0, wf⟩ p idx 0 = 0 := by
      unfold ScatterDims.start
      rw [dif_neg (by show ¬ (0 : Fin 2) ∈ [(1 : Fin 2)]; decide)]
    have w0 : ScatterDims.window ⟨[0, 1], [], [1], 0, wf⟩ p 0 = (p 0).val := rfl
    have w1 : ScatterDims.window ⟨[0, 1], [], [1], 0, wf⟩ p 1 = (p 1).val := rfl
    constructor
    · intro H
      have h0 := H 0
      have h1 := H 1
      rw [s0, w0] at h0
      rw [s1, w1] at h1
      have e0 : ((ix2 b j : (⟨2, ![A, N]⟩ : Shape).Idx) 0).val = b.val := rfl
      have e1 : ((ix2 b j : (⟨2, ![A, N]⟩ : Shape).Idx) 1).val = j.val := rfl
      rw [e0] at h0
      rw [e1] at h1
      omega
    · rintro ⟨h0, h1⟩ a
      match a with
      | ⟨0, _⟩ =>
        show ScatterDims.start _ p idx 0 + ((ScatterDims.window _ p 0 : ℕ) : ℤ) = (b.val : ℤ)
        rw [s0, w0]; omega
      | ⟨1, _⟩ =>
        show ScatterDims.start _ p idx 1 + ((ScatterDims.window _ p 1 : ℕ) : ℤ) = (j.val : ℤ)
        rw [s1, w1]; omega
  split
  · next h =>
    refine Routing.scatter_set_hit d x idx upd _ _ (fun p hp => ?_) (ix2 b ⟨j.val - 1, by omega⟩) ((key _).2 ⟨rfl, ?_⟩)
    · have := (key p).1 hp
      refine congrArg upd (funext fun a => Fin.ext ?_)
      match a with
      | ⟨0, _⟩ => exact this.1
      | ⟨1, _⟩ => show (p 1).val = j.val - 1; omega
    · show 1 + (j.val - 1) = j.val
      omega
  · next h => exact Routing.scatter_set_miss d x idx upd _ fun p hp => h (by have := ((key p).1 hp).2; omega)

/-- A take of rows of a table at a matrix of row numbers, each read signed and clamped into the table. -/
theorem take_rows {N C A B : Nat} {α : Type} (hN : 0 < N) (d : GatherDims (⟨2, ![N, C]⟩ : Shape) (⟨3, ![A, B, 1]⟩ : Shape) (⟨3, ![A, B, C]⟩ : Shape))
    (ho : d.offsetDims = [2]) (hc : d.collapsedSliceDims = [0]) (hb : d.operandBatchingDims = []) (hsb : d.startIndicesBatchingDims = [])
    (hm : d.startIndexMap = [0]) (hv : d.indexVectorDim = 2) (hss : d.sliceSizes = ![1, C])
    (x : (⟨2, ![N, C]⟩ : Shape).Idx → α) (idx : IVec (⟨3, ![A, B, 1]⟩ : Shape) 32) (a : Fin A) (b : Fin B) (k : Fin C) :
    Host.gather d x idx (ix3 a b k) = x (ix2 ⟨min (idx (ix3 a b 0)).toInt.toNat (N - 1), by omega⟩ k) := by
  obtain ⟨od, cs, ob, sib, sim, iv, ss, wf⟩ := d
  dsimp only at ho hc hb hsb hm hv hss
  subst ho hc hb hsb hm hv hss
  unfold Host.gather
  refine congrArg x (funext fun q => Fin.ext ?_)
  match q with
  | ⟨0, _⟩ =>
    show GatherDims.start _ (ix3 a b k) idx 0 + GatherDims.batchCoord _ (ix3 a b k) 0 + GatherDims.offCoord _ (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[2], [0], [], [], [0], 2, ![1, C], wf⟩ : GatherDims (⟨2, ![N, C]⟩ : Shape) (⟨3, ![A, B, 1]⟩ : Shape) (⟨3, ![A, B, C]⟩ : Shape))
        (ix3 a b k) ⟨List.idxOf (0 : Fin 2) [0], List.idxOf_lt_length_iff.2 (List.mem_singleton.mpr rfl)⟩ = ix3 a b 0 := by
      funext r; refine Fin.ext ?_
      match r with
      | ⟨0, _⟩ => rfl
      | ⟨1, _⟩ => rfl
      | ⟨2, _⟩ => rfl
    show min (idx (GatherDims.siIdx _ _ _)).toInt.toNat _ = _
    rw [hsi]
    rfl
  | ⟨1, _⟩ =>
    show GatherDims.start _ (ix3 a b k) idx 1 + GatherDims.batchCoord _ (ix3 a b k) 1 + GatherDims.offCoord _ (ix3 a b k) 1 = k.val
    rw [GatherDims.batchCoord_eq_zero _ _ _ List.not_mem_nil]
    unfold GatherDims.start
    rw [dif_neg (by show ¬ (1 : Fin 2) ∈ [(0 : Fin 2)]; decide)]
    show 0 + 0 + k.val = k.val
    omega

end Cert.HostOps

end
-- ==== Proof.Value.RefTake.lean ====
/- The reference's take of position rows at a frame: the frame's table position is clipped into the table, so the take
   wraps nothing, fills nothing, and reads that row. -/
module

public import proofs.«01_k».proof.Proof.Gen.ReferenceIdeal.Read
public import proofs.«01_k».proof.Proof.Value.HostOps

@[expose] public section

set_option maxRecDepth 16384

noncomputable section

namespace Cert.RefTake

open Idealize.ShloMosaic Cert.Scan Cert.HostOps

/-- A frame's table position, from its time: scaled, truncated, and clipped into the table. -/
def rowWord (t : EReal) : BitVec 32 :=
  IntOp.minsi 4499#32 (IntOp.maxsi 0#32 (FloatOps.fptosi (F := Ideal) (φ := .f32) 32 (FloatOps.mulf (F := Ideal) (φ := .f32) t (FloatOps.ofBits .f32 0x458C9800#32))))

/-- The clipped position is not negative. -/
theorem rowWord_nonneg (t : EReal) : 0 ≤ (rowWord t).toInt := by
  unfold rowWord
  rw [le_toInt_minsi]
  refine ⟨by decide, ?_⟩
  exact ((toInt_maxsi_le _ _ _).1 (le_refl _)).1

/-- The clipped position is at most 4499. -/
theorem rowWord_le (t : EReal) : (rowWord t).toInt ≤ 4499 :=
  ((le_toInt_minsi _ _ _).1 (le_refl _)).1

/-- The same, as a row number. -/
def row (t : EReal) : Fin 4500 := ⟨(rowWord t).toInt.toNat, by have := rowWord_nonneg t; have := rowWord_le t; omega⟩

/-- The row's number is the clipped position. -/
theorem row_val (t : EReal) : ((row t).val : ℤ) = (rowWord t).toInt := by
  have := rowWord_nonneg t
  show ((rowWord t).toInt.toNat : ℤ) = _
  omega

open Cert.ReferenceIdeal Cert.ReferenceIdeal.Gen Cert.ReferenceIdeal.Read

/-- The reference's clipped position of a frame. -/
theorem position_apply (x0 : (⟨S16x4096, .f32⟩ : BufTy).Contents (Elt Ideal)) (i : S16x4096.Idx) :
    val_main_v3 (F := Ideal) x0 i = rowWord (x0 i) := by
  rw [val_main_v3_apply, val_main_call0_v2_apply, val_main_call0_v4_apply, val_main_call0_v1_apply, val_main_v2_apply, val_main_v1_apply, val_main_v0_apply]
  rfl

/-- The wrapped position is the position: none is negative. -/
theorem wrapped_apply (x0 : (⟨S16x4096, .f32⟩ : BufTy).Contents (Elt Ideal)) (i : S16x4096.Idx) :
    val_main_call1_v4 (F := Ideal) x0 i = rowWord (x0 i) := by
  rw [val_main_call1_v4_apply, val_main_call1_v1_apply, position_apply, val_main_call1_v0_apply]
  have : IntOp.cmpi .slt (rowWord (x0 i)) 0#32 = 0#1 := by
    have h := rowWord_nonneg (x0 i)
    show BitVec.ofBool ((rowWord (x0 i)).slt 0#32) = 0#1
    have : (rowWord (x0 i)).slt 0#32 = false := by
      rw [BitVec.slt_eq_decide, decide_eq_false_iff_not, BitVec.toInt_zero]
      omega
    rw [this]; rfl
  show Scalar.select (IntOp.cmpi .slt (rowWord (x0 i)) 0#32) _ _ = _
  rw [this, ValueIdx.select_zero]

/-- The index that the take reads with: nothing is wrapped, as the position is not negative. -/
theorem index_apply (x0 : (⟨S16x4096, .f32⟩ : BufTy).Contents (Elt Ideal)) (b : Fin 16) (r : Fin 4096) (u : Fin 1) :
    val_main_call1_v5 (F := Ideal) x0 (ix3 b r u) = rowWord (x0 (ix2 b r)) := by
  rw [val_main_call1_v5_apply, wrapped_apply]
  congr 2
  funext a
  match a with
  | ⟨0, _⟩ => rfl
  | ⟨1, _⟩ => rfl

/-- No position is out of the table. -/
theorem mask_one (x0 : (⟨S16x4096, .f32⟩ : BufTy).Contents (Elt Ideal)) (i : S16x4096.Idx) : val_main_call1_v12 (F := Ideal) x0 i = 1#1 := by
  unfold val_main_call1_v12
  suffices hk : ∀ (b : Fin 16) (r : Fin 4096) (u : Fin 1), val_main_call1_v11 (F := Ideal) x0 (ix3 b r u) = 1#1 from
    reduce_andi_one _ _ _ _ rfl (fun k => (congrArg _ (eq_ix3 k)).trans (hk _ _ _)) i
  intro b r u
  rw [val_main_call1_v11_apply, val_main_call1_v7_apply, val_main_call1_v10_apply, index_apply, val_main_call1_v6_apply, val_main_call1_v9_apply,
    val_main_call1_v8_apply]
  show IntOp.andi (BitVec.ofBool ((0#32 : BitVec 32).sle (rowWord _))) (BitVec.ofBool ((rowWord _).sle 4499#32)) = 1#1
  have h1 : ∀ t, (0#32 : BitVec 32).sle (rowWord t) = true := fun t => by
    rw [BitVec.sle_eq_decide, decide_eq_true_eq, BitVec.toInt_zero]
    exact rowWord_nonneg t
  have h2 : ∀ t, (rowWord t).sle 4499#32 = true := fun t => by
    rw [BitVec.sle_eq_decide, decide_eq_true_eq]
    exact rowWord_le t
  rw [h1, h2]
  rfl

/-- The reference's position embedding. -/
theorem take_apply (x0 : (⟨S16x4096, .f32⟩ : BufTy).Contents (Elt Ideal)) (x2 : (⟨S4500x128, .f32⟩ : BufTy).Contents (Elt Ideal)) (b : Fin 16) (r : Fin 4096)
    (p : Fin 128) : val_main_v4 (F := Ideal) x0 x2 (ix3 b r p) = x2 (ix2 (row (x0 (ix2 b r))) p) := by
  rw [val_main_v4_apply, val_main_call1_v14_apply, mask_one, ValueIdx.select_one]
  unfold val_main_call1_v13
  rw [take_rows (by omega) gather_S4500x128_S16x4096x1_S16x4096x128_2_0_n_n_0_2_1128 rfl rfl rfl rfl rfl rfl rfl]
  refine congrArg (fun q => x2 (ix2 q p)) (Fin.ext ?_)
  show min (val_main_call1_v5 (F := Ideal) x0 (ix3 b r 0)).toInt.toNat (4500 - 1) = (rowWord (x0 (ix2 b r))).toInt.toNat
  rw [index_apply]
  have := rowWord_le (x0 (ix2 b r))
  omega

end Cert.RefTake

end
-- ==== Proof.Value.Equation.lean ====
/- The kernel's row and the reference's are one: the mixing weights split into the even and the odd position coordinates
   and the scene's, and the product of the hidden units with two layers' weights may be taken in either order when the
   hidden units and those weights are real numbers. The two biases and the positions' mixing weights may be infinite. -/
module

public import proofs.«01_k».proof.Proof.Value.KernelRow
public import proofs.«01_k».proof.Proof.Value.RefTake
public import Mathlib.Data.EReal.Operations
public import Mathlib.Algebra.BigOperators.Fin
public import Mathlib.Logic.Equiv.Fin.Basic

@[expose] public section

noncomputable section

namespace Cert.Equation

open Idealize.ShloMosaic Cert.KernelRow Cert.RefTake

/-- An extended real that is a real number. -/
def IsReal (x : EReal) : Prop := ∃ q : ℝ, x = (q : EReal)

/-- A sum of real numbers is one. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- A product of real numbers is one. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- A magnitude below infinity is a real number's. -/
theorem isReal_of_abs {x : EReal} (h : max x (-x) < ⊤) : IsReal x := by
  induction x with
  | bot => simp at h
  | top => simp at h
  | coe q => exact ⟨q, rfl⟩

/-! ## The hidden units are real numbers -/

/-- A quotient of words is real when the divisor is not zero. -/
theorem isReal_quot {n d : BitVec 32} (hd : d.toInt ≠ 0) : IsReal (quot n d) := by
  have h : ((d.toInt : ℝ) : EReal) ≠ 0 := by
    rw [Ne, EReal.coe_eq_zero]
    exact_mod_cast hd
  refine ⟨(n.toInt : ℝ) * (d.toInt : ℝ)⁻¹, ?_⟩
  show Ideal.div ((n.toInt : ℝ) : EReal) ((d.toInt : ℝ) : EReal) = _
  unfold Ideal.div
  rw [if_neg h, EReal.coe_mul, EReal.coe_inv]

/-- A scene's length, at least one, is not zero. -/
theorem len_ne_zero (a : BitVec 32) : (IntOp.maxsi a 1#32).toInt ≠ 0 := by
  have h := ((Cert.Scan.toInt_maxsi_le a 1#32 _).1 (le_refl _)).2
  have e : (1#32 : BitVec 32).toInt = 1 := by decide
  omega

/-- A hidden unit before its activation is real when its weights and bias are. -/
theorem isReal_pre {s e r : BitVec 32} {w w' b : EReal} (hw : IsReal w) (hw' : IsReal w') (hb : IsReal b) : IsReal (pre s e r w w' b) :=
  (((isReal_quot (len_ne_zero _)).mul hw).add ((isReal_quot (len_ne_zero _)).mul hw')).add hb

/-- The half in the activation is real. -/
theorem isReal_half : IsReal (Ideal.ofBits .f32 0x3F000000#32) := by
  refine ⟨1 / 2, ?_⟩
  simp [Ideal.ofBits, Ideal.ieee, -EReal.coe_mul]
  norm_num

/-- The scale in the activation is real. -/
theorem isReal_scale : IsReal (Ideal.ofBits .f32 0x3F3504F3#32) := by
  refine ⟨11863283 / 16777216, ?_⟩
  simp [Ideal.ofBits, Ideal.ieee, -EReal.coe_mul]
  norm_num

/-- The error function of a real number is real. -/
theorem isReal_erf {x : EReal} (hx : IsReal x) : IsReal (Ideal.erf x) := by
  obtain ⟨q, rfl⟩ := hx
  exact ⟨_, Ideal.erf_coe q⟩

/-- The activation of a real number is real. -/
theorem isReal_act {x : EReal} (hx : IsReal x) : IsReal (act x) :=
  (isReal_half.mul hx).mul (IsReal.add ⟨1, rfl⟩ (isReal_erf (hx.mul isReal_scale)))

/-! ## Sums and products -/

/-- A sum of real numbers is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A real number's product distributes over adding a real number to any extended real. -/
theorem add_mul_real (p w : ℝ) (y : EReal) : ((p : EReal) + y) * (w : EReal) = (p : EReal) * w + y * w := by
  induction y with
  | coe q => rw [← EReal.coe_add, ← EReal.coe_mul, ← EReal.coe_mul, ← EReal.coe_mul, ← EReal.coe_add, add_mul]
  | top =>
    rw [EReal.coe_add_top, ← EReal.coe_mul]
    rcases lt_trichotomy w 0 with h | h | h
    · rw [EReal.top_mul_coe_of_neg h, EReal.add_bot]
    · rw [h]; simp
    · rw [EReal.top_mul_coe_of_pos h, EReal.coe_add_top]
  | bot =>
    rw [EReal.add_bot, ← EReal.coe_mul]
    rcases lt_trichotomy w 0 with h | h | h
    · rw [EReal.bot_mul_coe_of_neg h, EReal.coe_add_top]
    · rw [h]; simp
    · rw [EReal.bot_mul_coe_of_pos h, EReal.add_bot]

/-- The hidden units against the second layer, then the mixing weights, is the hidden units against the product of the
    two, plus the second layer's bias carried through. -/
theorem layers {K L : ℕ} (h : Fin K → EReal) (W : Fin L → Fin K → EReal) (c w : Fin L → EReal) (hh : ∀ k, IsReal (h k))
    (hW : ∀ l k, IsReal (W l k)) (hw : ∀ l, IsReal (w l)) :
    ∑ l, (∑ k, h k * W l k + c l) * w l = ∑ k, h k * (∑ l, W l k * w l) + ∑ l, c l * w l := by
  choose h' eh using hh
  choose W' eW using hW
  choose w' ew using hw
  obtain rfl : h = fun k => (h' k : EReal) := funext eh
  obtain rfl : w = fun l => (w' l : EReal) := funext ew
  obtain rfl : W = fun l k => (W' l k : EReal) := funext fun l => funext (eW l)
  have e1 : ∀ l, (∑ k, (h' k : EReal) * (W' l k : EReal) + c l) * (w' l : EReal) = (((∑ k, h' k * W' l k) * w' l : ℝ) : EReal) + c l * (w' l : EReal) := by
    intro l
    simp only [← EReal.coe_mul, coe_sum]
    rw [add_mul_real, EReal.coe_mul]
  have e2 : ∀ k, (h' k : EReal) * (∑ l, (W' l k : EReal) * (w' l : EReal)) = ((h' k * (∑ l, W' l k * w' l) : ℝ) : EReal) := by
    intro k
    simp only [← EReal.coe_mul, coe_sum]
  simp only [e1, e2, Finset.sum_add_distrib, coe_sum]
  congr 2
  simp only [Finset.sum_mul, Finset.mul_sum]
  rw [Finset.sum_comm]
  exact Finset.sum_congr rfl fun k _ => Finset.sum_congr rfl fun l _ => mul_assoc _ _ _

/-- A sum over 128 is the sum over the even and the sum over the odd. -/
theorem even_odd (g : Fin 128 → EReal) :
    ∑ p, g p = ∑ j : Fin 64, g ⟨2 * j.val, by omega⟩ + ∑ j : Fin 64, g ⟨1 + 2 * j.val, by omega⟩ := by
  rw [← Equiv.sum_comp (finProdFinEquiv (m := 64) (n := 2)) g, Fintype.sum_prod_type]
  simp only [Fin.sum_univ_two]
  rw [Finset.sum_add_distrib]
  refine congrArg₂ (fun p q : EReal => p + q) (Finset.sum_congr rfl fun j _ => congrArg g (Fin.ext ?_)) (Finset.sum_congr rfl fun j _ => congrArg g (Fin.ext ?_))
  · show 0 + 2 * j.val = 2 * j.val
    omega
  · rfl

/-- A table row's number, as a word, is the word it was clipped from. -/
theorem ofNat_row (t : EReal) : BitVec.ofNat 32 (row t).val = rowWord t := by
  apply BitVec.eq_of_toInt_eq
  rw [← row_val t]
  have h := (row t).isLt
  rw [BitVec.toInt_ofNat']
  rw [Int.bmod_eq_of_le] <;> omega

end Cert.Equation

end
-- ==== Proof.Value.RefScene.lean ====
/- The reference's boundaries and scenes at a frame: frame `j` of video `b` is a boundary when it is the first, the last, or
   its embedding's inner product with the previous one is below the threshold; the running maximum and the reversed running
   minimum over the boundaries are the scene's start and end. -/
module

public import proofs.«01_k».proof.Proof.Gen.ReferenceIdeal.Read
public import proofs.«01_k».proof.Proof.Value.HostOps
public import proofs.«01_k».proof.Proof.Value.Scene

@[expose] public section

set_option maxRecDepth 16384

noncomputable section

namespace Cert.RefScene

open Idealize.ShloMosaic Cert.Scan Cert.HostOps Cert.Scene

/-- The inner product of two frames' embeddings. -/
def sim (fe : (⟨3, ![16, 4096, 768]⟩ : Shape).Idx → EReal) (b : Fin 16) (i j : Fin 4096) : EReal :=
  ∑ k : Fin 768, fe (ix3 b i k) * fe (ix3 b j k)

/-- Frame `j` begins a scene. -/
def IsBound (fe : (⟨3, ![16, 4096, 768]⟩ : Shape).Idx → EReal) (b : Fin 16) (j : Fin 4096) : Prop :=
  j.val = 0 ∨ j.val = 4095
    ∨ ∃ i : Fin 4096, i.val + 1 = j.val ∧ FloatOps.cmpf (F := Ideal) (φ := .f32) .olt (sim fe b i j) (FloatOps.ofBits .f32 0x3F333333#32) = 1#1

open Cert.ReferenceIdeal Cert.ReferenceIdeal.Gen Cert.ReferenceIdeal.Read

/-- Of two bits, one or the other is set. -/
theorem ori_eq_one (p q : BitVec 1) : IntOp.ori p q = 1#1 ↔ p = 1#1 ∨ q = 1#1 := by
  revert p q; decide

/-- The mask of the first and last frames. -/
theorem ends_iff (j : Fin 4096) : val_main_v14 (F := Ideal) (ix1 j) = 1#1 ↔ j.val = 0 ∨ j.val = 4095 := by
  have h0 : val_main_v10 (F := Ideal) (ix1 j) = 0#1 := by rw [val_main_v10_apply]; rfl
  unfold val_main_v14
  rw [set_entry scatter_S4096_S1_S__n_0_0_0 rfl rfl rfl rfl _ _ _ j 4095#32 (fun i => by rw [val_main_v13_apply]; rfl) 1#1 val_main_c_7_apply]
  unfold val_main_v12
  rw [set_entry scatter_S4096_S1_S__n_0_0_0 rfl rfl rfl rfl _ _ _ j 0#32 (fun i => by rw [val_main_v11_apply]; rfl) 1#1 val_main_c_5_apply, h0]
  have e1 : (4095#32 : BitVec 32).toInt = 4095 := by decide
  have e2 : (0#32 : BitVec 32).toInt = 0 := by decide
  rw [e1, e2]
  by_cases h1 : (4095 : ℤ) = j.val
  · rw [if_pos h1]
    exact iff_of_true rfl (Or.inr (by omega))
  · rw [if_neg h1]
    by_cases h2 : (0 : ℤ) = j.val
    · rw [if_pos h2]
      exact iff_of_true rfl (Or.inl (by omega))
    · rw [if_neg h2]
      exact iff_of_false (by decide) (by omega)

/-- The inner products the reference compares. -/
theorem sim_apply (x1 : (⟨S16x4096x768, .f32⟩ : BufTy).Contents (Elt Ideal)) (b : Fin 16) (i j : Fin 4096) (h : i.val + 1 = j.val)
    (i' : Fin 4095) (hi : i'.val = i.val) : val_main_v9 (F := Ideal) x1 (ix2 b i') = sim x1 b i j := by
  rw [val_main_v9_apply]
  have z : (val_main_cst_2 (F := Ideal)) (Shape.Idx.first h_S_) = 0 := Ideal.ofBits_zero_f32
  rw [z, zero_add]
  unfold sim
  refine Finset.sum_congr rfl fun k _ => ?_
  rw [val_main_v8_apply, val_main_v6_apply, val_main_v7_apply]
  show x1 _ * x1 _ = _
  congr 2
  · funext a
    match a with
    | ⟨0, _⟩ => rfl
    | ⟨1, _⟩ => exact Fin.ext hi
    | ⟨2, _⟩ => rfl
  · funext a
    match a with
    | ⟨0, _⟩ => rfl
    | ⟨1, _⟩ => exact Fin.ext (by show 1 + i'.val = j.val; omega)
    | ⟨2, _⟩ => rfl

/-- The reference's boundary mask. -/
theorem bound_iff (x1 : (⟨S16x4096x768, .f32⟩ : BufTy).Contents (Elt Ideal)) (b : Fin 16) (j : Fin 4096) :
    val_main_v23 (F := Ideal) x1 (ix2 b j) = 1#1 ↔ IsBound x1 b j := by
  unfold val_main_v23
  rw [set_columns rfl scatter_S16x4096_S1_S16x4095_01_n_1_0 rfl rfl rfl rfl _ _ _ b j (fun i => by rw [val_main_v21_apply]; rfl)]
  have hj := j.isLt
  split
  · next h =>
    rw [val_main_v20_apply, ori_eq_one]
    have e : val_main_v19 (F := Ideal) (ix2 b ⟨j.val - 1, by omega⟩) = val_main_v14 (F := Ideal) (ix1 j) := by
      rw [val_main_v19_apply, val_main_v18_apply, val_main_v15_apply]
      congr 1
      funext a
      match a with
      | ⟨0, _⟩ => exact Fin.ext (by show 1 + (j.val - 1) = j.val; omega)
    rw [e, ends_iff, val_main_v17_apply, sim_apply x1 b ⟨j.val - 1, by omega⟩ j (by dsimp only; omega) _ rfl, val_main_v16_apply]
    unfold IsBound
    constructor
    · rintro ((h0 | h0) | h0)
      · exact Or.inl h0
      · exact Or.inr (Or.inl h0)
      · exact Or.inr (Or.inr ⟨⟨j.val - 1, by omega⟩, by dsimp only; omega, h0⟩)
    · rintro (h0 | h0 | ⟨i, hi, h0⟩)
      · exact Or.inl (Or.inl h0)
      · exact Or.inl (Or.inr h0)
      · have : i = ⟨j.val - 1, by omega⟩ := Fin.ext (by dsimp only; omega)
        rw [this] at h0
        exact Or.inr h0
  · next h =>
    have e : val_main_v22 (F := Ideal) (ix2 b j) = val_main_v14 (F := Ideal) (ix1 j) := by
      rw [val_main_v22_apply]
      congr 1
      funext a
      match a with
      | ⟨0, _⟩ => rfl
    rw [e, ends_iff]
    exact iff_of_true (Or.inl (by omega)) (Or.inl (by omega))

/-- The reference's candidates for the scenes' starts. -/
theorem startCand_toInt (x1 : (⟨S16x4096x768, .f32⟩ : BufTy).Contents (Elt Ideal)) (b : Fin 16) (j : Fin 4096) [Decidable (IsBound x1 b j)] :
    (val_main_v24 (F := Ideal) x1 (ix2 b j)).toInt = if IsBound x1 b j then (j.val : ℤ) else -1 := by
  have e : val_main_v24 (F := Ideal) x1 (ix2 b j)
      = Scalar.select (val_main_v23 (F := Ideal) x1 (ix2 b j)) (BitVec.ofNat 32 j.val) 4294967295#32 := by
    rw [val_main_v24_apply, val_main_call2_v3_apply, val_main_call2_v2_apply]
    rfl
  rw [e, cand]
  exact if_congr (bound_iff x1 b j) rfl (by decide)

/-- The reference's candidates for the scenes' ends. -/
theorem endCand_toInt (x1 : (⟨S16x4096x768, .f32⟩ : BufTy).Contents (Elt Ideal)) (b : Fin 16) (j : Fin 4096) [Decidable (IsBound x1 b j)] :
    (val_main_v26 (F := Ideal) x1 (ix2 b j)).toInt = if IsBound x1 b j then (j.val : ℤ) else 4096 := by
  have e : val_main_v26 (F := Ideal) x1 (ix2 b j)
      = Scalar.select (val_main_v23 (F := Ideal) x1 (ix2 b j)) (BitVec.ofNat 32 j.val) 4096#32 := by
    rw [val_main_v26_apply, val_main_call4_v3_apply, val_main_call4_v2_apply]
    rfl
  rw [e, cand]
  exact if_congr (bound_iff x1 b j) rfl (by decide)

/-- The reference's scene start. -/
theorem start_isStart (x1 : (⟨S16x4096x768, .f32⟩ : BufTy).Contents (Elt Ideal)) (b : Fin 16) (r : Fin 4096) :
    IsStart (IsBound x1 b) r (val_main_v25 (F := Ideal) x1 (ix2 b r)) := by
  classical
  intro z
  unfold val_main_v25
  rw [cummax_le rfl]
  have e : ((val_main_call3_v0 (F := Ideal)) (Shape.Idx.first h_S_)).toInt = -2147483648 := by
    rw [val_main_call3_v0_apply]
    show (2147483648#32 : BitVec 32).toInt = _
    decide
  rw [e]
  have f0 : IsBound x1 b ⟨0, by omega⟩ := Or.inl rfl
  constructor
  · rintro ⟨-, H⟩
    refine ⟨?_, fun j hj hb => ?_⟩
    · have := H ⟨0, by omega⟩ (Nat.zero_le _)
      rw [startCand_toInt, if_pos f0] at this
      dsimp only at this
      omega
    · have := H j hj
      rwa [startCand_toInt, if_pos hb] at this
  · rintro ⟨hz, H⟩
    refine ⟨by omega, fun i hi => ?_⟩
    rw [startCand_toInt]
    split
    · next hb => exact H i hi hb
    · exact hz

/-- The reference's first boundary from a frame on. -/
theorem endFrom_le (x1 : (⟨S16x4096x768, .f32⟩ : BufTy).Contents (Elt Ideal)) (b : Fin 16) (r : Fin 4096) (z : ℤ) :
    z ≤ (val_main_v29 (F := Ideal) x1 (ix2 b r)).toInt ↔ z ≤ 4095 ∧ ∀ j : Fin 4096, r.val ≤ j.val → IsBound x1 b j → z ≤ (j.val : ℤ) := by
  classical
  have rev : ∀ (x : (⟨2, ![16, 4096]⟩ : Shape).Idx → BitVec 32) (j : Fin 4096), Host.reverse [1] x (ix2 b j) = x (ix2 b j.rev) := fun x j => by
    unfold Host.reverse
    congr 1
    funext a
    match a with
    | ⟨0, _⟩ => rfl
    | ⟨1, _⟩ => refine Fin.ext ?_; rfl
  have last : IsBound x1 b ⟨4095, by omega⟩ := Or.inr (Or.inl rfl)
  have hr := r.isLt
  have e : ((val_main_call5_v0 (F := Ideal)) (Shape.Idx.first h_S_)).toInt = 2147483647 := by
    rw [val_main_call5_v0_apply]
    show (2147483647#32 : BitVec 32).toInt = _
    decide
  unfold val_main_v29
  rw [rev]
  unfold val_main_v28
  rw [le_cummin rfl, e]
  have at' : ∀ i : Fin 4096, val_main_v27 (F := Ideal) x1 (ix2 b i) = val_main_v26 (F := Ideal) x1 (ix2 b i.rev) := fun i => rev _ i
  constructor
  · rintro ⟨-, H⟩
    have H' : ∀ j : Fin 4096, r.val ≤ j.val → IsBound x1 b j → z ≤ (j.val : ℤ) := fun j hj hb => by
      have := H j.rev (by simp only [Fin.val_rev]; omega)
      rwa [at', Fin.rev_rev, endCand_toInt, if_pos hb] at this
    exact ⟨H' ⟨4095, by omega⟩ (by dsimp only; omega) last, H'⟩
  · rintro ⟨hz, H⟩
    refine ⟨by omega, fun i hi => ?_⟩
    rw [at', endCand_toInt]
    have hi' := i.isLt
    split
    · next hb => exact H i.rev (by simp only [Fin.val_rev] at hi ⊢; omega) hb
    · omega

/-- The reference's scene end. -/
theorem end_isEnd (x1 : (⟨S16x4096x768, .f32⟩ : BufTy).Contents (Elt Ideal)) (b : Fin 16) (r : Fin 4096) :
    IsEnd (IsBound x1 b) r (val_main_v32 (F := Ideal) x1 (ix2 b r)) := by
  intro z
  have hr := r.isLt
  by_cases h : r.val < 4095
  · have e : val_main_v32 (F := Ideal) x1 (ix2 b r) = val_main_v29 (F := Ideal) x1 (ix2 b ⟨r.val + 1, by omega⟩) := by
      unfold val_main_v32
      rw [concatenate_pair_apply_left (s₁ := S16x4095) (s₂ := S16x1) 1 _ _ _ (ix2 b r) rfl (ix2 b ⟨r.val, h⟩ : S16x4095.Idx) (fun a => by match a with | ⟨0, _⟩ => rfl | ⟨1, _⟩ => rfl),
        val_main_v30_apply]
      congr 1
      funext a
      match a with
      | ⟨0, _⟩ => rfl
      | ⟨1, _⟩ => exact Fin.ext (by show 1 + r.val = r.val + 1; omega)
    rw [e, endFrom_le]
    exact Iff.rfl
  · have e : val_main_v32 (F := Ideal) x1 (ix2 b r) = 4095#32 := by
      unfold val_main_v32
      rw [concatenate_pair_apply_right (s₁ := S16x4095) (s₂ := S16x1) 1 _ _ _ (ix2 b r) rfl rfl (ix2 b 0 : S16x1.Idx)
        (fun a ha => by match a with | ⟨0, _⟩ => rfl | ⟨1, _⟩ => exact absurd rfl ha) (by show 0 + 4095 = r.val; omega), val_main_v31_apply]
      rfl
    rw [e]
    have e' : (4095#32 : BitVec 32).toInt = 4095 := by decide
    rw [e']
    exact ⟨fun hz => ⟨hz, fun j hj _ => by have := j.isLt; omega⟩, fun hz => hz.1⟩

end Cert.RefScene

end
-- ==== Proof.Value.KernelFlags.lean ====
/- The array of flags that the kernel's first region leaves: the word of a frame is 1 when the frame is a boundary, else 0,
   whatever row the first point found in the scratch. A block's first frame is compared with the row the point before
   left there; at a video's first frame, where that row belongs to another video or to nobody, the flag is set anyway. -/
module

public import proofs.«01_k».proof.Proof.Value.RefScene
public import proofs.«01_k».proof.Proof.KernelIdeal.Flags
public import Idealize.ShloMosaic.Lib.Pipeline.ValueKit

@[expose] public section

set_option maxRecDepth 16384

noncomputable section

namespace Cert.KernelFlags

open Idealize.ShloMosaic Cert.Scan Cert.Scene Cert.RefScene
open Idealize.ShloMosaic.TcCoe Idealize.SL.Sem
open Cert.KernelIdeal Cert.KernelIdeal.Gen Cert.KernelIdeal.Run

open Classical in
/-- A frame's flag word. -/
def flag (fe : (⟨3, ![16, 4096, 768]⟩ : Shape).Idx → EReal) (b : Fin 16) (j : Fin 4096) : BitVec 32 :=
  if IsBound fe b j then 1#32 else 0#32

/-- The frame before frame `r` of a block: the carried row before the first. -/
def prev (x : Vec Ideal S1x512x768 .f32) (v : Vec Ideal S1x768 .f32) (r : Fin 512) (k : Fin 768) : EReal :=
  if h : r.val < 1 then v (ix2 ⟨r.val, h⟩ k) else x (ix3 0 ⟨r.val - 1, by omega⟩ k)

/-- The flag a point computes for a frame of its block. -/
theorem pay2_at (i : grid0.Coords) (x : Vec Ideal S1x512x768 .f32) (v : Vec Ideal S1x768 .f32) (r : Fin 512) :
    k0_pay2 i x v (ix3 0 r 0) = BitVec.setWidth 32 (IntOp.ori (IntOp.ori
      (FloatOps.cmpf (F := Ideal) (φ := .f32) .olt (∑ k : Fin 768, prev x v r k * x (ix3 0 r k)) (FloatOps.ofBits .f32 0x3F333333#32))
      (IntOp.andi (IntOp.cmpi .eq (BitVec.ofNat 32 (i 1).val) (BitVec.ofNat 32 0)) (IntOp.cmpi .eq (BitVec.ofNat 32 r.val) (BitVec.ofNat 32 0))))
      (IntOp.andi (IntOp.cmpi .eq (BitVec.ofNat 32 (i 1).val) (BitVec.ofNat 32 7)) (IntOp.cmpi .eq (BitVec.ofNat 32 r.val) (BitVec.ofNat 32 511)))) := by
  pointwise [k0_pay2, k0_pay1]
  rfl

/-- The row a point leaves in the scratch is its block's last. -/
theorem pay3_at (x : Vec Ideal S1x512x768 .f32) (k : Fin 768) : k0_pay3 x (ix2 0 k) = x (ix3 0 511 k) := by
  pointwise [k0_pay3, k0_pay1]

/-- When an equality of small words answers one. -/
theorem cmpi_eq_one (n k : Nat) (hn : n < 2 ^ 32) (hk : k < 2 ^ 32) :
    IntOp.cmpi .eq (BitVec.ofNat 32 n) (BitVec.ofNat 32 k) = 1#1 ↔ n = k := by
  show BitVec.ofBool (BitVec.ofNat 32 n == BitVec.ofNat 32 k) = 1#1 ↔ n = k
  have e : BitVec.ofNat 32 n = BitVec.ofNat 32 k ↔ n = k := by
    refine ⟨fun h => ?_, fun h => h ▸ rfl⟩
    have := congrArg BitVec.toNat h
    rwa [BitVec.toNat_ofNat, BitVec.toNat_ofNat, Nat.mod_eq_of_lt hn, Nat.mod_eq_of_lt hk] at this
  by_cases h : n = k
  · subst h
    simp
  · have hne : (BitVec.ofNat 32 n == BitVec.ofNat 32 k) = false := beq_eq_false_iff_ne.2 fun h' => h (e.1 h')
    rw [hne]
    exact iff_of_false (by decide) h

/-- Of two bits, both are set. -/
theorem andi_eq_one (p q : BitVec 1) : IntOp.andi p q = 1#1 ↔ p = 1#1 ∧ q = 1#1 := by
  revert p q; decide

/-- A bit widened to a word is one or zero. -/
theorem setWidth_bit (p : BitVec 1) (P : Prop) [Decidable P] (h : p = 1#1 ↔ P) : BitVec.setWidth 32 p = if P then 1#32 else 0#32 := by
  rcases BitVec.eq_zero_or_eq_one p with rfl | rfl
  · rw [if_neg (fun hp => absurd (h.2 hp) (by decide))]; rfl
  · rw [if_pos (h.1 rfl)]; rfl

/-- The flag a point stores for frame `r` of its block. -/
theorem flag_point (fe : (⟨3, ![16, 4096, 768]⟩ : Shape).Idx → EReal) (b : Fin 16) (i : grid0.Coords) (q : Nat) (hq : q < 8) (hi : (i 1).val = q)
    (x : Vec Ideal S1x512x768 .f32) (v : Vec Ideal S1x768 .f32) (hx : ∀ (r : Fin 512) (k : Fin 768), x (ix3 0 r k) = fe (ix3 b ⟨q * 512 + r.val, by omega⟩ k))
    (hv : ∀ (h : 0 < q) (k : Fin 768), v (ix2 0 k) = fe (ix3 b ⟨q * 512 - 1, by omega⟩ k)) (r : Fin 512) :
    k0_pay2 i x v (ix3 0 r 0) = flag fe b ⟨q * 512 + r.val, by omega⟩ := by
  classical
  have hr := r.isLt
  rw [pay2_at]
  unfold flag
  convert setWidth_bit _ (IsBound fe b ⟨q * 512 + r.val, by omega⟩) ?_
  rw [hi, ori_eq_one, ori_eq_one, andi_eq_one, andi_eq_one, cmpi_eq_one _ _ (by omega) (by omega), cmpi_eq_one _ _ (by omega) (by omega),
    cmpi_eq_one _ _ (by omega) (by omega), cmpi_eq_one _ _ (by omega) (by omega)]
  have key : ∀ p : Fin 4096, p.val + 1 = q * 512 + r.val →
      ∑ k : Fin 768, prev x v r k * x (ix3 0 r k) = sim fe b p ⟨q * 512 + r.val, by omega⟩ := fun p hp => by
    unfold sim
    refine Finset.sum_congr rfl fun k _ => ?_
    rw [hx]
    refine congrArg (· * _) ?_
    unfold prev
    split
    · next h0 =>
      have hr0 : (⟨r.val, h0⟩ : Fin 1) = 0 := Subsingleton.elim _ _
      rw [hr0, hv (by omega)]
      exact congrArg (fun j => fe (ix3 b j k)) (Fin.ext (by dsimp only; omega))
    · next h0 =>
      rw [hx]
      exact congrArg (fun j => fe (ix3 b j k)) (Fin.ext (by dsimp only; omega))
  unfold IsBound
  dsimp only
  constructor
  · rintro ((h | ⟨h1, h2⟩) | ⟨h1, h2⟩)
    · by_cases h0 : q * 512 + r.val = 0
      · exact Or.inl h0
      · refine Or.inr (Or.inr ⟨⟨q * 512 + r.val - 1, by omega⟩, by dsimp only; omega, ?_⟩)
        rwa [← key ⟨q * 512 + r.val - 1, by omega⟩ (by dsimp only; omega)]
    · exact Or.inl (by omega)
    · exact Or.inr (Or.inl (by omega))
  · rintro (h | h | ⟨p, hp, h⟩)
    · exact Or.inl (Or.inr ⟨by omega, by omega⟩)
    · exact Or.inr ⟨by omega, by omega⟩
    · rw [← key p hp] at h
      exact Or.inl (Or.inl h)

/-- Which block of frames a point reads. -/
theorem index_in : ∀ t : Fin cfg0.N, win0_0.index t = ![t.val / 8, t.val % 8, 0] := by decide +kernel
/-- Which block of flags a point writes. -/
theorem index_out : ∀ t : Fin cfg0.N, win0_1.index t = ![t.val / 8, t.val % 8, 0] := by decide +kernel
/-- A point's second grid coordinate. -/
theorem coords_one : ∀ t : Fin cfg0.N, (grid0.coords t 1).val = t.val % 8 := by decide +kernel

variable (V : (c : Dev nD) → (b : Ref sig .tc) → Buf (Elt Ideal) ((c : Thread nD τ).loc b))

/-- The first region has 128 points. -/
theorem points_lt (t : Fin cfg0.N) : t.val < 128 := t.isLt

/-- A block of frames at an index. -/
theorem block_at (c : Dev nD) (t : Fin cfg0.N) (r : Fin 512) (k : Fin 768) (b : Fin 16) (j : Fin 4096) (hb : b.val = t.val / 8)
    (hj : j.val = (t.val % 8) * 512 + r.val) : iblk0 V c 0 t (ix3 0 r k) = V c main_arg1 (ix3 b j k) := by
  blk_ext [iblk0, index_in]

/-- The row left by a point. -/
theorem lastRow_at (x : Vec Ideal S1x512x768 .f32) (k : Fin 768) : lastRow x (ix2 0 k) = x (ix3 0 511 k) := by
  unfold lastRow
  frame_out
  exact pay3_at x k

/-- The flags of a point. -/
theorem flagsOut_at (i : grid0.Coords) (x : Vec Ideal S1x512x768 .f32) (v : Vec Ideal S1x768 .f32) (y : S1x512x1.Idx) :
    flagsOut i x v y = k0_pay2 i x v y := by
  unfold flagsOut
  frame_out

/-- The flags of a point, in the array's words. -/
theorem flags_point (v₀ : Vec Ideal S1x768 .f32) (c : Dev nD) (t : Fin cfg0.N) (r : Fin 512) :
    flagsOut (grid0.coords t) (iblk0 V c 0 t) (carry V v₀ c t) (ix3 0 r 0)
      = flag (V c main_arg1) ⟨t.val / 8, by have := points_lt t; omega⟩ ⟨t.val % 8 * 512 + r.val, by omega⟩ := by
  have ht := points_lt t
  rw [flagsOut_at]
  refine flag_point (V c main_arg1) ⟨t.val / 8, by omega⟩ (grid0.coords t) (t.val % 8) (by omega) (coords_one t) _ _ (fun r k => ?_) (fun h k => ?_) r
  · exact block_at V c t r k _ _ rfl rfl
  · have h0 : 0 < t.val := by omega
    unfold carry
    rw [dif_pos h0, lastRow_at]
    exact block_at V c _ 511 k _ _ (by show t.val / 8 = (t.val - 1) / 8; omega)
      (by show t.val % 8 * 512 - 1 = (t.val - 1) % 8 * 512 + 511; omega)

/-- An index of a block of flags is a frame. -/
theorem unit_eta (z : S1x512x1.Idx) : ∃ r : Fin 512, r.val = (z 1).val ∧ z = ix3 0 r 0 := by
  refine ⟨z 1, rfl, funext fun a => ?_⟩
  match a with
  | ⟨0, _⟩ => exact Subsingleton.elim (α := Fin 1) _ _
  | ⟨1, _⟩ => rfl
  | ⟨2, _⟩ => exact Subsingleton.elim (α := Fin 1) _ _

/-- The flags of a point, at any index of its block. -/
theorem flags_point_at (v₀ : Vec Ideal S1x768 .f32) (c : Dev nD) (t : Fin cfg0.N) (y : S1x512x1.Idx) (b : Fin 16) (j : Fin 4096)
    (hb : b.val = t.val / 8) (hj : j.val = t.val % 8 * 512 + (y 1).val) :
    flagsOut (grid0.coords t) (iblk0 V c 0 t) (carry V v₀ c t) y = flag (V c main_arg1) b j := by
  obtain ⟨r, hr, hy⟩ := unit_eta y
  rw [← hr] at hj
  rw [hy, flags_point]
  have e2 : b = ⟨t.val / 8, by have := points_lt t; omega⟩ := Fin.ext hb
  have e3 : j = ⟨t.val % 8 * 512 + r.val, by omega⟩ := Fin.ext hj
  rw [e2, e3]

/-- The array of flags after the first region. -/
theorem flags_eq (v₀ : Vec Ideal S1x768 .f32) (c : Dev nD) :
    (flagsDat V v₀ c).arrAt 1 cfg0.N = fun i : S16x4096x1.Idx => flag (V c main_arg1) (i 0) (i 1) := by
  refine (flagsDat V v₀ c).arrAt_eq_of_covers 1 _ (by decide +kernel) fun t hf y => ?_
  blk_simp
  rw [flagsDat_after1]
  refine flags_point_at V v₀ c t y _ _ ?_ ?_
  · blk_simp [index_out]
  · blk_simp [index_out]

end Cert.KernelFlags

end
-- ==== Proof.Value.HostReads.lean ====
/- What the kernel's second region finds in its windows' arrays, at an index, from the buffers before the host operations
   that set it up. -/
module

public import proofs.«01_k».proof.Proof.KernelIdeal.Run
public import Idealize.ShloMosaic.PureOps.Ideal.Laws
public import Idealize.ShloMosaic.Lib.StableHlo.ReadAt
public import Idealize.ShloMosaic.Lib.Pointwise.IndexBridge

@[expose] public section

set_option maxRecDepth 16384

noncomputable section

namespace Cert.HostReads

open Idealize.ShloMosaic Idealize.ShloMosaic.TcCoe Idealize.SL.Sem Idealize.ShloMosaic.StableHlo
open Cert.KernelIdeal Cert.KernelIdeal.Gen Cert.KernelIdeal.Run

variable (W : Valuation τ sig (Elt Ideal))

/-- The mixing weights of the even position coordinates. -/
theorem v3_at (j : Fin 64) (o : Fin 256) : after hostOps1 W main_v3 (ix2 j o) = W main_arg7 (ix2 o ⟨2 * j.val, by omega⟩) := by
  after_reads_at
/-- The mixing weights of the odd position coordinates. -/
theorem v5_at (j : Fin 64) (o : Fin 256) : after hostOps1 W main_v5 (ix2 j o) = W main_arg7 (ix2 o ⟨1 + 2 * j.val, by omega⟩) := by
  after_reads_at
/-- The second layer's weights, transposed. -/
theorem v6_at (k l : Fin 128) : after hostOps1 W main_v6 (ix2 k l) = W main_arg5 (ix2 l k) := by
  after_reads_at
/-- The mixing weights of the scene's coordinates. -/
theorem v8_at (k : Fin 128) (o : Fin 256) : after hostOps1 W main_v8 (ix2 k o) = W main_arg7 (ix2 o ⟨128 + k.val, by omega⟩) := by
  after_reads_at
/-- The first layer's first column. -/
theorem v11_at (k : Fin 128) : after hostOps1 W main_v11 (ix2 0 k) = W main_arg3 (ix2 k 0) := by
  after_reads_at
/-- The first layer's second column. -/
theorem v14_at (k : Fin 128) : after hostOps1 W main_v14 (ix2 0 k) = W main_arg3 (ix2 k 1) := by
  after_reads_at
/-- The first layer's bias. -/
theorem v15_at (k : Fin 128) : after hostOps1 W main_v15 (ix2 0 k) = W main_arg4 (ix1 k) := by
  after_reads_at
/-- The second layer's bias. -/
theorem v16_at (k : Fin 128) : after hostOps1 W main_v16 (ix2 0 k) = W main_arg6 (ix1 k) := by
  after_reads_at
/-- The mixing bias. -/
theorem v17_at (o : Fin 256) : after hostOps1 W main_v17 (ix2 0 o) = W main_arg8 (ix1 o) := by
  after_reads_at
/-- The positions. -/
theorem v18_at (b : Fin 16) (r : Fin 4096) : after hostOps1 W main_v18 (ix3 b r 0) = W main_arg0 (ix2 b r) := by
  after_reads_at

end Cert.HostReads

end
-- ==== Proof.Value.KernelArray.lean ====
/- The kernel's result array: every element is the row function of the arguments, whatever row the first region found in
   its scratch. -/
module

public import proofs.«01_k».proof.Proof.Value.KernelRow
public import proofs.«01_k».proof.Proof.Value.KernelFlags
public import proofs.«01_k».proof.Proof.Value.RefTake
public import proofs.«01_k».proof.Proof.Value.HostReads

@[expose] public section

set_option maxRecDepth 16384

noncomputable section

namespace Cert.KernelArray

open Idealize.ShloMosaic Idealize.ShloMosaic.TcCoe Idealize.SL.Sem Idealize.ShloMosaic.StableHlo
open Cert.Scene Cert.RefScene Cert.RefTake Cert.KernelRow Cert.KernelFlags Cert.HostReads
open Cert.KernelIdeal Cert.KernelIdeal.Gen Cert.KernelIdeal.Run

/-- The frequency of the pair `j` of position coordinates. -/
def freq (j : Fin 64) : EReal := FloatOps.ofBits (F := Ideal) .f32 (lit0 j)

/-- The kernel's result for a frame, one coordinate: the position's sines and cosines against the mixing weights of the
    even and the odd position coordinates, the activated hidden units against the product of the second layer's and the
    mixing weights, and the bias carried through. -/
def row (n s e r : BitVec 32) (x3 : S128x2.Idx → EReal) (x4 : S128.Idx → EReal) (x5 : S128x128.Idx → EReal) (x6 : S128.Idx → EReal)
    (x7 : S256x256.Idx → EReal) (x8 : S256.Idx → EReal) (o : Fin 256) : EReal :=
  ∑ j : Fin 64, Ideal.sin (angle n (freq j)) * x7 (ix2 o ⟨2 * j.val, by omega⟩)
    + ∑ j : Fin 64, Ideal.cos (angle n (freq j)) * x7 (ix2 o ⟨1 + 2 * j.val, by omega⟩)
    + ∑ k : Fin 128, act (pre s e r (x3 (ix2 k 0)) (x3 (ix2 k 1)) (x4 (ix1 k)))
        * (∑ l : Fin 128, x5 (ix2 l k) * x7 (ix2 o ⟨128 + l.val, by omega⟩))
    + (∑ l : Fin 128, x6 (ix1 l) * x7 (ix2 o ⟨128 + l.val, by omega⟩) + x8 (ix1 o))

/-! ## The blocks of the second region -/

/-- Which block of window 0 a point has. -/
theorem index_0 : ∀ t : Fin cfg1.N, win1_0.index t = ![t.val, 0, 0] := by decide +kernel
/-- Which block of window 1 a point has. -/
theorem index_1 : ∀ t : Fin cfg1.N, win1_1.index t = ![t.val, 0, 0] := by decide +kernel
/-- Which block of window 2 a point has. -/
theorem index_2 : ∀ t : Fin cfg1.N, win1_2.index t = ![0, 0] := by decide +kernel
/-- Which block of window 3 a point has. -/
theorem index_3 : ∀ t : Fin cfg1.N, win1_3.index t = ![0, 0] := by decide +kernel
/-- Which block of window 4 a point has. -/
theorem index_4 : ∀ t : Fin cfg1.N, win1_4.index t = ![0, 0] := by decide +kernel
/-- Which block of window 5 a point has. -/
theorem index_5 : ∀ t : Fin cfg1.N, win1_5.index t = ![0, 0] := by decide +kernel
/-- Which block of window 6 a point has. -/
theorem index_6 : ∀ t : Fin cfg1.N, win1_6.index t = ![0, 0] := by decide +kernel
/-- Which block of window 7 a point has. -/
theorem index_7 : ∀ t : Fin cfg1.N, win1_7.index t = ![0, 0] := by decide +kernel
/-- Which block of window 8 a point has. -/
theorem index_8 : ∀ t : Fin cfg1.N, win1_8.index t = ![0, 0] := by decide +kernel
/-- Which block of window 9 a point has. -/
theorem index_9 : ∀ t : Fin cfg1.N, win1_9.index t = ![0, 0] := by decide +kernel
/-- Which block of window 10 a point has. -/
theorem index_10 : ∀ t : Fin cfg1.N, win1_10.index t = ![0, 0] := by decide +kernel
/-- Which block of window 11 a point has. -/
theorem index_11 : ∀ t : Fin cfg1.N, win1_11.index t = ![0, 0] := by decide +kernel
/-- Which block of window 12 a point has. -/
theorem index_12 : ∀ t : Fin cfg1.N, win1_12.index t = ![t.val, 0, 0] := by decide +kernel

variable (V : (c : Dev nD) → (b : Ref sig .tc) → Buf (Elt Ideal) ((c : Thread nD τ).loc b))

/-- Window 0's block, at an index. -/
theorem b0 (c : Dev nD) (t : Fin cfg1.N) (r : Fin 4096) (b : Fin 16) (hb : b.val = t.val) : iblk1 V c 0 t (ix3 0 r 0) = V c main_v0 (ix3 b r 0) := by
  blk_ext [iblk1, index_0]
/-- Window 1's block, at an index. -/
theorem b1 (c : Dev nD) (t : Fin cfg1.N) (r : Fin 4096) (b : Fin 16) (hb : b.val = t.val) : iblk1 V c 1 t (ix3 0 r 0) = V c main_v18 (ix3 b r 0) := by
  blk_ext [iblk1, index_1]
/-- Window 2's block, at an index. -/
theorem b2 (c : Dev nD) (t : Fin cfg1.N) (k : Fin 128) : iblk1 V c 2 t (ix2 0 k) = V c main_v11 (ix2 0 k) := by
  blk_ext [iblk1, index_2]
/-- Window 3's block, at an index. -/
theorem b3 (c : Dev nD) (t : Fin cfg1.N) (k : Fin 128) : iblk1 V c 3 t (ix2 0 k) = V c main_v14 (ix2 0 k) := by
  blk_ext [iblk1, index_3]
/-- Window 4's block, at an index. -/
theorem b4 (c : Dev nD) (t : Fin cfg1.N) (k : Fin 128) : iblk1 V c 4 t (ix2 0 k) = V c main_v15 (ix2 0 k) := by
  blk_ext [iblk1, index_4]
/-- Window 5's block, at an index. -/
theorem b5 (c : Dev nD) (t : Fin cfg1.N) (k : Fin 64) : iblk1 V c 5 t (ix2 0 k) = V c main_cst (ix2 0 k) := by
  blk_ext [iblk1, index_5]
/-- Window 6's block, at an index. -/
theorem b6 (c : Dev nD) (t : Fin cfg1.N) (k : Fin 64) (o : Fin 256) : iblk1 V c 6 t (ix2 k o) = V c main_v3 (ix2 k o) := by
  blk_ext [iblk1, index_6]
/-- Window 7's block, at an index. -/
theorem b7 (c : Dev nD) (t : Fin cfg1.N) (k : Fin 64) (o : Fin 256) : iblk1 V c 7 t (ix2 k o) = V c main_v5 (ix2 k o) := by
  blk_ext [iblk1, index_7]
/-- Window 8's block, at an index. -/
theorem b8 (c : Dev nD) (t : Fin cfg1.N) (k : Fin 128) (o : Fin 128) : iblk1 V c 8 t (ix2 k o) = V c main_v6 (ix2 k o) := by
  blk_ext [iblk1, index_8]
/-- Window 9's block, at an index. -/
theorem b9 (c : Dev nD) (t : Fin cfg1.N) (k : Fin 128) (o : Fin 256) : iblk1 V c 9 t (ix2 k o) = V c main_v8 (ix2 k o) := by
  blk_ext [iblk1, index_9]
/-- Window 10's block, at an index. -/
theorem b10 (c : Dev nD) (t : Fin cfg1.N) (k : Fin 128) : iblk1 V c 10 t (ix2 0 k) = V c main_v16 (ix2 0 k) := by
  blk_ext [iblk1, index_10]
/-- Window 11's block, at an index. -/
theorem b11 (c : Dev nD) (t : Fin cfg1.N) (k : Fin 256) : iblk1 V c 11 t (ix2 0 k) = V c main_v17 (ix2 0 k) := by
  blk_ext [iblk1, index_11]

/-- What the second region's arrays hold when it is entered. -/
structure Entry (c : Dev nD) (x0 : S16x4096.Idx → EReal) (x1 : S16x4096x768.Idx → EReal) (x3 : S128x2.Idx → EReal) (x4 : S128.Idx → EReal)
    (x5 : S128x128.Idx → EReal) (x6 : S128.Idx → EReal) (x7 : S256x256.Idx → EReal) (x8 : S256.Idx → EReal) : Prop where
  v0 : ∀ b r, V c main_v0 (ix3 b r 0) = flag x1 b r
  v18 : ∀ b r, V c main_v18 (ix3 b r 0) = x0 (ix2 b r)
  v11 : ∀ k, V c main_v11 (ix2 0 k) = x3 (ix2 k 0)
  v14 : ∀ k, V c main_v14 (ix2 0 k) = x3 (ix2 k 1)
  v15 : ∀ k, V c main_v15 (ix2 0 k) = x4 (ix1 k)
  cst : ∀ j, V c main_cst (ix2 0 j) = freq j
  v3 : ∀ (j : Fin 64) o, V c main_v3 (ix2 j o) = x7 (ix2 o ⟨2 * j.val, by omega⟩)
  v5 : ∀ (j : Fin 64) o, V c main_v5 (ix2 j o) = x7 (ix2 o ⟨1 + 2 * j.val, by omega⟩)
  v6 : ∀ k l, V c main_v6 (ix2 k l) = x5 (ix2 l k)
  v8 : ∀ (k : Fin 128) o, V c main_v8 (ix2 k o) = x7 (ix2 o ⟨128 + k.val, by omega⟩)
  v16 : ∀ k, V c main_v16 (ix2 0 k) = x6 (ix1 k)
  v17 : ∀ o, V c main_v17 (ix2 0 o) = x8 (ix1 o)

/-- A frame's flag word is above zero exactly at a boundary. -/
theorem flagged_iff (x : Vec Ideal S1x4096x1 .i32) (fe : S16x4096x768.Idx → EReal) (b : Fin 16) (h : ∀ j, x (ix3 0 j 0) = flag fe b j) (j : Fin 4096) :
    flagged x j ↔ IsBound fe b j := by
  unfold flagged
  rw [h]
  unfold flag
  split
  · next hb => exact ⟨fun _ => hb, fun _ => by decide⟩
  · next hb => exact ⟨fun h => absurd h (by decide), fun h => absurd h hb⟩

/-- The kernel's result, at video `b`, frame `r`, coordinate `o`. -/
def out (x0 : S16x4096.Idx → EReal) (x1 : S16x4096x768.Idx → EReal) (x3 : S128x2.Idx → EReal) (x4 : S128.Idx → EReal)
    (x5 : S128x128.Idx → EReal) (x6 : S128.Idx → EReal) (x7 : S256x256.Idx → EReal) (x8 : S256.Idx → EReal) (b : Fin 16) (r : Fin 4096) (o : Fin 256) : EReal :=
  row (rowWord (x0 (ix2 b r))) (Cert.ReferenceIdeal.Read.val_main_v25 (F := Ideal) x1 (ix2 b r)) (Cert.ReferenceIdeal.Read.val_main_v32 (F := Ideal) x1 (ix2 b r))
    (BitVec.ofNat 32 r.val) x3 x4 x5 x6 x7 x8 o

section

variable {V} {c : Dev nD} {x0 : S16x4096.Idx → EReal} {x1 : S16x4096x768.Idx → EReal} {x3 : S128x2.Idx → EReal} {x4 : S128.Idx → EReal}
    {x5 : S128x128.Idx → EReal} {x6 : S128.Idx → EReal} {x7 : S256x256.Idx → EReal} {x8 : S256.Idx → EReal}

/-- What a point stores. -/
theorem point_at (h : Entry V c x0 x1 x3 x4 x5 x6 x7 x8) (t : Fin cfg1.N) (b : Fin 16) (hb : b.val = t.val) (r : Fin 4096) (o : Fin 256) :
    (dat1 V c).after 12 t (ix3 0 r o) = out x0 x1 x3 x4 x5 x6 x7 x8 b r o := by
  rw [after1_12]
  refine (out_at _ _ _ _ _ _ _ _ _ _ _ _ r o (IsBound x1 b) (flagged_iff _ x1 b fun j => (b0 V c t j b hb).trans (h.v0 b j)) _ _
    (Cert.RefScene.start_isStart x1 b r) (Cert.RefScene.end_isEnd x1 b r) (rowWord (x0 (ix2 b r))) ?_).trans ?_
  · rw [b1 V c t r b hb, h.v18]
    rfl
  · simp only [b2, b3, b4, b5, b6, b7, b8, b9, b10, b11, h.v11, h.v14, h.v15, h.cst, h.v3, h.v5, h.v6, h.v8, h.v16, h.v17]
    rfl

/-- An index of a block is a frame and a coordinate. -/
theorem block_eta (z : S1x4096x256.Idx) : ∃ (r : Fin 4096) (o : Fin 256), r.val = (z 1).val ∧ o.val = (z 2).val ∧ z = ix3 0 r o := by
  refine ⟨z 1, z 2, rfl, rfl, funext fun a => ?_⟩
  match a with
  | ⟨0, _⟩ => exact Subsingleton.elim (α := Fin 1) _ _
  | ⟨1, _⟩ => rfl
  | ⟨2, _⟩ => rfl

/-- What a point stores, at any index of its block. -/
theorem point_at_block (h : Entry V c x0 x1 x3 x4 x5 x6 x7 x8) (t : Fin cfg1.N) (y : S1x4096x256.Idx) (b : Fin 16) (r : Fin 4096) (o : Fin 256)
    (hb : b.val = t.val) (hr : r.val = (y 1).val) (ho : o.val = (y 2).val) :
    (dat1 V c).after 12 t y = out x0 x1 x3 x4 x5 x6 x7 x8 b r o := by
  obtain ⟨r', o', hr', ho', hy⟩ := block_eta y
  obtain rfl : r = r' := Fin.ext (hr.trans hr'.symm)
  obtain rfl : o = o' := Fin.ext (ho.trans ho'.symm)
  rw [hy]
  exact point_at h t b hb r o

/-- The result array after the second region. -/
theorem array_eq (h : Entry V c x0 x1 x3 x4 x5 x6 x7 x8) :
    (dat1 V c).arrAt 12 cfg1.N = fun i : S16x4096x256.Idx => out x0 x1 x3 x4 x5 x6 x7 x8 (i 0) (i 1) (i 2) := by
  refine (dat1 V c).arrAt_eq_of_covers 12 _ (by decide +kernel) fun t hf y => ?_
  blk_simp
  refine point_at_block h t y _ _ _ ?_ ?_ ?_
  · blk_simp [index_12]
  · blk_simp [index_12]
  · blk_simp [index_12]

end

/-! ## What the launch's set-up gives -/

variable (m : (ℓ : Loc nD τ sig) → Buf (Elt Ideal) ℓ)

/-- The first region leaves the arguments as launched. -/
theorem arg_at (v : Vec Ideal S1x768 .f32) (c : Dev nD) (a : Ref sig .tc) (h : a ∈ argRefs) : W2 m v c a = m ((c : Thread nD τ).loc a) := W2_args m v c a h

/-- The second region finds the first one's flags. -/
theorem flags_at (v : Vec Ideal S1x768 .f32) (c : Dev nD) (b : Fin 16) (r : Fin 4096) :
    E3 m v c main_v0 (ix3 b r 0) = flag (m ((c : Thread nD τ).loc main_arg1)) b r := by
  have e1 : E3 m v c main_v0 = (flagsDat (E1 m) v c).arrAt 1 cfg0.N := (W3_of m v c main_v0 (by decide +kernel)).trans (W2_arr m v c 1)
  have e2 : E1 m c main_arg1 = m ((c : Thread nD τ).loc main_arg1) := W1_of m c main_arg1 (by decide +kernel)
  rw [e1, flags_eq, e2]
  rfl

/-- An element of a one-row array lies at its column. -/
theorem rowMajor_val : ∀ j : Fin 64, (S1x64.rowMajor (ix2 0 j)).val = j.val := by decide +kernel

/-- The second region finds the frequencies. -/
theorem cst_at (v : Vec Ideal S1x768 .f32) (c : Dev nD) (j : Fin 64) : E3 m v c main_cst (ix2 0 j) = freq j := by
  have e1 : E3 m v c main_cst = W1 m c main_cst := (W3_of m v c main_cst (by decide +kernel)).trans (W2_of_ne m v c main_cst (by decide +kernel))
  rw [e1]
  show after hostOps0 (W0 m c) main_cst (ix2 0 j) = _
  after_reads_at
  unfold freq
  exact congrArg (fun q : Fin 64 => FloatOps.ofBits (F := Ideal) .f32 (lit0 q)) (Fin.ext (rowMajor_val j))

/-- The arrays of the second region at its entry. -/
theorem entry (v : Vec Ideal S1x768 .f32) (c : Dev nD) :
    Entry (E3 m v) c (m ((c : Thread nD τ).loc main_arg0)) (m ((c : Thread nD τ).loc main_arg1)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) where
  v0 := flags_at m v c
  v18 b r := (v18_at (W2 m v c) b r).trans (congrFun (arg_at m v c main_arg0 (by decide)) _)
  v11 k := (v11_at (W2 m v c) k).trans (congrFun (arg_at m v c main_arg3 (by decide)) _)
  v14 k := (v14_at (W2 m v c) k).trans (congrFun (arg_at m v c main_arg3 (by decide)) _)
  v15 k := (v15_at (W2 m v c) k).trans (congrFun (arg_at m v c main_arg4 (by decide)) _)
  cst := cst_at m v c
  v3 j o := (v3_at (W2 m v c) j o).trans (congrFun (arg_at m v c main_arg7 (by decide)) _)
  v5 j o := (v5_at (W2 m v c) j o).trans (congrFun (arg_at m v c main_arg7 (by decide)) _)
  v6 k l := (v6_at (W2 m v c) k l).trans (congrFun (arg_at m v c main_arg5 (by decide)) _)
  v8 k o := (v8_at (W2 m v c) k o).trans (congrFun (arg_at m v c main_arg7 (by decide)) _)
  v16 k := (v16_at (W2 m v c) k).trans (congrFun (arg_at m v c main_arg6 (by decide)) _)
  v17 o := (v17_at (W2 m v c) o).trans (congrFun (arg_at m v c main_arg8 (by decide)) _)

/-- The kernel's result array, as a function of the arguments. -/
theorem result_eq (v : Vec Ideal S1x768 .f32) (c : Dev nD) :
    (dat1 (E3 m v) c).arrAt 12 cfg1.N = fun i : S16x4096x256.Idx => out (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (i 0) (i 1) (i 2) :=
  array_eq (entry m v c)

end Cert.KernelArray

end
-- ==== Proof.Value.PreFacts.lean ====
/- What the precondition says at an index: the position table holds the sines and cosines of the positions' angles, and
   the weights and the first bias that must be real numbers are. -/
module

public import proofs.«01_k».proof.Defs
public import proofs.«01_k».proof.Proof.Value.Equation
public import proofs.«01_k».proof.Proof.Value.KernelArray

@[expose] public section

set_option maxRecDepth 16384

noncomputable section

namespace Cert.PreFacts

open Idealize.ShloMosaic Cert.Equation Cert.KernelRow Cert.KernelArray
open Cert.Pre_inputs_as_set_up

variable [Cert.Pre_inputs_as_set_up.Facts]

/-- An element of a one-row array lies at its column. -/
theorem rowMajor_at : ∀ j : Fin 64, (S1x64.rowMajor (ix2 0 j)).val = j.val := by decide +kernel

/-- The precondition's frequencies are the kernel's. -/
theorem lit_eq : ∀ j : Fin 64, lit0 j = Cert.KernelIdeal.lit0 j := by decide +kernel

/-- A comparison for equality that answers one. -/
theorem eq_of_cmp {x y : EReal} (h : Ideal.cmp .oeq x y = 1#1) : x = y := by
  by_contra hne
  simp [Ideal.cmp, hne] at h

/-- A comparison for less that answers one. -/
theorem lt_of_cmp {x y : EReal} (h : Ideal.cmp .olt x y = 1#1) : x < y := by
  by_contra hne
  simp [Ideal.cmp, hne] at h

/-- The infinite word is infinity. -/
theorem ofBits_top : Ideal.ofBits .f32 0x7F800000#32 = ⊤ := by simp [Ideal.ofBits, Ideal.ieee]

/-- A magnitude that compares less than the infinite word is a real number's. -/
theorem isReal_of_cmp {x : EReal} (h : Ideal.cmp .olt (max x (-x)) (Ideal.ofBits .f32 0x7F800000#32) = 1#1) : IsReal x :=
  isReal_of_abs (ofBits_top ▸ lt_of_cmp h)

variable (x0 : FVec Ideal S16x4096 .f32) (x1 : FVec Ideal S16x4096x768 .f32) (x2 : FVec Ideal S4500x128 .f32) (x3 : FVec Ideal S128x2 .f32)
  (x4 : FVec Ideal S128 .f32) (x5 : FVec Ideal S128x128 .f32) (x6 : FVec Ideal S128 .f32) (x7 : FVec Ideal S256x256 .f32) (x8 : FVec Ideal S256 .f32)

/-- The angle that the precondition writes is the kernel's. -/
theorem table_angle (i : Fin 4500) (j : Fin 64) : FloatOps.sitofp (F := Ideal) .f32 (BitVec.ofNat 32 i.val)
    * FloatOps.ofBits (F := Ideal) .f32 (lit0 (S1x64.rowMajor (ix2 0 j))) = angle (BitVec.ofNat 32 i.val) (freq j) := by
  have e : S1x64.rowMajor (ix2 0 j) = j := Fin.ext (rowMajor_at j)
  rw [e, lit_eq]
  rfl

/-- The precondition's six arrays of conditions. -/
abbrev conds := fn (F := Ideal) x0 x1 x2 x3 x4 x5 x6 x7 x8

/-- The first condition, at an index. -/
theorem even_at (i : Fin 4500) (j : Fin 64) : (conds x0 x1 x2 x3 x4 x5 x6 x7 x8).1 (ix2 i j) = Ideal.cmp .oeq (x2 (ix2 i ⟨2 * j.val, by omega⟩))
    (Ideal.sin (FloatOps.sitofp (F := Ideal) .f32 (BitVec.ofNat 32 i.val) * FloatOps.ofBits (F := Ideal) .f32 (lit0 (S1x64.rowMajor (ix2 0 j))))) := by
  unfold conds fn fn_part1
  dsimp only
  pointwise

/-- The second condition, at an index. -/
theorem odd_at (i : Fin 4500) (j : Fin 64) : (conds x0 x1 x2 x3 x4 x5 x6 x7 x8).2.1 (ix2 i j) = Ideal.cmp .oeq (x2 (ix2 i ⟨1 + 2 * j.val, by omega⟩))
    (Ideal.cos (FloatOps.sitofp (F := Ideal) .f32 (BitVec.ofNat 32 i.val) * FloatOps.ofBits (F := Ideal) .f32 (lit0 (S1x64.rowMajor (ix2 0 j))))) := by
  unfold conds fn fn_part1
  dsimp only
  pointwise

/-- The third condition, at an index. -/
theorem w1_at (k : Fin 128) (j : Fin 2) : (conds x0 x1 x2 x3 x4 x5 x6 x7 x8).2.2.1 (ix2 k j) = Ideal.cmp .olt (max (x3 (ix2 k j)) (-x3 (ix2 k j))) (Ideal.ofBits .f32 0x7F800000#32) := by
  unfold conds fn fn_part1
  dsimp only
  pointwise
  rfl

/-- The fourth condition, at an index. -/
theorem b1_at (k : Fin 128) : (conds x0 x1 x2 x3 x4 x5 x6 x7 x8).2.2.2.1 (ix1 k) = Ideal.cmp .olt (max (x4 (ix1 k)) (-x4 (ix1 k))) (Ideal.ofBits .f32 0x7F800000#32) := by
  unfold conds fn fn_part1
  dsimp only
  pointwise
  rfl

/-- The fifth condition, at an index. -/
theorem w2_at (l k : Fin 128) : (conds x0 x1 x2 x3 x4 x5 x6 x7 x8).2.2.2.2.1 (ix2 l k) = Ideal.cmp .olt (max (x5 (ix2 l k)) (-x5 (ix2 l k))) (Ideal.ofBits .f32 0x7F800000#32) := by
  unfold conds fn fn_part1
  dsimp only
  pointwise
  rfl

/-- The sixth condition, at an index. -/
theorem wm_at (o : Fin 256) (l : Fin 128) : (conds x0 x1 x2 x3 x4 x5 x6 x7 x8).2.2.2.2.2 (ix2 o l)
    = Ideal.cmp .olt (max (x7 (ix2 o (Fin.natAdd 128 l))) (-x7 (ix2 o (Fin.natAdd 128 l)))) (Ideal.ofBits .f32 0x7F800000#32) := by
  unfold conds fn fn_part1
  dsimp only
  pointwise
  rfl

/-- The precondition of nine arrays, read at every index. -/
structure SetUp (x2 : S4500x128.Idx → EReal) (x3 : S128x2.Idx → EReal) (x4 : S128.Idx → EReal) (x5 : S128x128.Idx → EReal)
    (x7 : S256x256.Idx → EReal) : Prop where
  even : ∀ (i : Fin 4500) (j : Fin 64), x2 (ix2 i ⟨2 * j.val, by omega⟩) = Ideal.sin (angle (BitVec.ofNat 32 i.val) (freq j))
  odd : ∀ (i : Fin 4500) (j : Fin 64), x2 (ix2 i ⟨1 + 2 * j.val, by omega⟩) = Ideal.cos (angle (BitVec.ofNat 32 i.val) (freq j))
  w1 : ∀ (k : Fin 128) (j : Fin 2), IsReal (x3 (ix2 k j))
  b1 : ∀ k : Fin 128, IsReal (x4 (ix1 k))
  w2 : ∀ l k : Fin 128, IsReal (x5 (ix2 l k))
  wm : ∀ (o : Fin 256) (l : Fin 128), IsReal (x7 (ix2 o (Fin.natAdd 128 l)))

/-- The precondition gives those facts. -/
theorem setUp (h : (conds x0 x1 x2 x3 x4 x5 x6 x7 x8).1 = (fun _ => 1#1) ∧ (conds x0 x1 x2 x3 x4 x5 x6 x7 x8).2.1 = (fun _ => 1#1) ∧ (conds x0 x1 x2 x3 x4 x5 x6 x7 x8).2.2.1 = (fun _ => 1#1)
    ∧ (conds x0 x1 x2 x3 x4 x5 x6 x7 x8).2.2.2.1 = (fun _ => 1#1) ∧ (conds x0 x1 x2 x3 x4 x5 x6 x7 x8).2.2.2.2.1 = (fun _ => 1#1) ∧ (conds x0 x1 x2 x3 x4 x5 x6 x7 x8).2.2.2.2.2 = (fun _ => 1#1)) : SetUp x2 x3 x4 x5 x7 where
  even i j := (eq_of_cmp ((even_at x0 x1 x2 x3 x4 x5 x6 x7 x8 i j).symm.trans (congrFun h.1 _))).trans (congrArg Ideal.sin (table_angle i j))
  odd i j := (eq_of_cmp ((odd_at x0 x1 x2 x3 x4 x5 x6 x7 x8 i j).symm.trans (congrFun h.2.1 _))).trans (congrArg Ideal.cos (table_angle i j))
  w1 k j := isReal_of_cmp ((w1_at x0 x1 x2 x3 x4 x5 x6 x7 x8 k j).symm.trans (congrFun h.2.2.1 _))
  b1 k := isReal_of_cmp ((b1_at x0 x1 x2 x3 x4 x5 x6 x7 x8 k).symm.trans (congrFun h.2.2.2.1 _))
  w2 l k := isReal_of_cmp ((w2_at x0 x1 x2 x3 x4 x5 x6 x7 x8 l k).symm.trans (congrFun h.2.2.2.2.1 _))
  wm o l := isReal_of_cmp ((wm_at x0 x1 x2 x3 x4 x5 x6 x7 x8 o l).symm.trans (congrFun h.2.2.2.2.2 _))

end Cert.PreFacts

end
-- ==== Proof.Value.RefRow.lean ====
/- The reference's result at an index: the position row and the embedded scene position, side by side, against the mixing weights. -/
module

public import proofs.«01_k».proof.Proof.Value.KernelRow
public import proofs.«01_k».proof.Proof.Value.RefTake
public import proofs.«01_k».proof.Proof.Gen.ReferenceIdeal.Read

@[expose] public section

set_option maxRecDepth 16384

noncomputable section

namespace Cert.RefRow

open Idealize.ShloMosaic Cert.KernelRow Cert.RefTake
open Cert.ReferenceIdeal Cert.ReferenceIdeal.Gen Cert.ReferenceIdeal.Read

variable (x0 : (⟨S16x4096, .f32⟩ : BufTy).Contents (Elt Ideal)) (x1 : (⟨S16x4096x768, .f32⟩ : BufTy).Contents (Elt Ideal))
  (x2 : (⟨S4500x128, .f32⟩ : BufTy).Contents (Elt Ideal)) (x3 : (⟨S128x2, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x256, .f32⟩ : BufTy).Contents (Elt Ideal))
  (x8 : (⟨S256, .f32⟩ : BufTy).Contents (Elt Ideal)) (b : Fin 16) (r : Fin 4096)

/-- The length of a frame's scene, at least one. -/
abbrev len : BitVec 32 := IntOp.maxsi (IntOp.subi (val_main_v32 (F := Ideal) x1 (ix2 b r)) (val_main_v25 (F := Ideal) x1 (ix2 b r))) 1#32

/-- The scene's length, as a float. -/
theorem v36_at : val_main_v36 (F := Ideal) x1 (ix2 b r) = FloatOps.sitofp (F := Ideal) .f32 (len x1 b r) := rfl

/-- The frame's own number, where the progress is taken. -/
theorem v38_at : val_main_v38 (F := Ideal) (ix2 b r) = BitVec.ofNat 32 r.val := by
  rw [val_main_v38_apply, val_main_v37_apply]
  rfl

/-- The frame's own number, where the distance is taken. -/
theorem v43_at : val_main_v43 (F := Ideal) (ix2 b r) = BitVec.ofNat 32 r.val := by
  rw [val_main_v43_apply, val_main_v42_apply]
  rfl

/-- How far into its scene a frame is. -/
theorem v41_at : val_main_v41 (F := Ideal) x1 (ix2 b r)
    = quot (IntOp.subi (BitVec.ofNat 32 r.val) (val_main_v25 (F := Ideal) x1 (ix2 b r))) (len x1 b r) := by
  rw [val_main_v41_apply, val_main_v40_apply, val_main_v39_apply, v36_at, v38_at]
  rfl

/-- How far a frame is from its scene's end. -/
theorem v46_at : val_main_v46 (F := Ideal) x1 (ix2 b r)
    = quot (IntOp.subi (val_main_v32 (F := Ideal) x1 (ix2 b r)) (BitVec.ofNat 32 r.val)) (len x1 b r) := by
  rw [val_main_v46_apply, val_main_v45_apply, val_main_v44_apply, v36_at, v43_at]
  rfl

/-- The first feature of a frame is its progress. -/
theorem v49_left : val_main_v49 (F := Ideal) x1 (ix3 b r 0) = val_main_v41 (F := Ideal) x1 (ix2 b r) := by
  unfold val_main_v49
  rw [concatenate_pair_apply_left (s₁ := S16x4096x1) (s₂ := S16x4096x1) 2 _ _ _ (ix3 b r 0 : S16x4096x2.Idx) rfl (ix3 b r 0 : S16x4096x1.Idx)
    (fun a => by match a with | ⟨0, _⟩ => rfl | ⟨1, _⟩ => rfl | ⟨2, _⟩ => rfl), val_main_v47_apply]
  exact congrArg (val_main_v41 (F := Ideal) x1) (eq_ix2 _)

/-- The second is its distance to the scene's end. -/
theorem v49_right : val_main_v49 (F := Ideal) x1 (ix3 b r 1) = val_main_v46 (F := Ideal) x1 (ix2 b r) := by
  unfold val_main_v49
  rw [concatenate_pair_apply_right (s₁ := S16x4096x1) (s₂ := S16x4096x1) 2 _ _ _ (ix3 b r 1 : S16x4096x2.Idx) rfl rfl (ix3 b r 0 : S16x4096x1.Idx)
    (fun a ha => by match a with | ⟨0, _⟩ => rfl | ⟨1, _⟩ => rfl | ⟨2, _⟩ => exact absurd rfl ha) rfl, val_main_v48_apply]
  exact congrArg (val_main_v46 (F := Ideal) x1) (eq_ix2 _)

/-- The first layer's weights, transposed. -/
theorem v50_at (j : Fin 2) (k : Fin 128) : val_main_v50 (F := Ideal) x3 (ix2 j k) = x3 (ix2 k j) := by
  rw [val_main_v50_apply]
  exact congrArg x3 (eq_ix2 _)

/-- The first layer's bias, for every frame. -/
theorem v53_at (k : Fin 128) : val_main_v53 (F := Ideal) x4 (ix3 b r k) = x4 (ix1 k) := by
  rw [val_main_v53_apply, val_main_v52_apply]
  exact congrArg x4 (eq_ix1 _)

/-- A hidden unit before its activation, from the scene the reference finds. -/
abbrev hid (k : Fin 128) : EReal :=
  pre (val_main_v25 (F := Ideal) x1 (ix2 b r)) (val_main_v32 (F := Ideal) x1 (ix2 b r)) (BitVec.ofNat 32 r.val) (x3 (ix2 k 0)) (x3 (ix2 k 1)) (x4 (ix1 k))

/-- The first layer, at a frame and a hidden unit. -/
theorem v54_at (k : Fin 128) : val_main_v54 (F := Ideal) x1 x3 x4 (ix3 b r k) = hid x1 x3 x4 b r k := by
  rw [val_main_v54_apply, val_main_v51_apply, Fin.sum_univ_two, v53_at]
  have e0 : lidx_main_v51 (ix3 b r k) 0 = ix3 b r 0 := eq_ix3 _
  have e1 : lidx_main_v51 (ix3 b r k) 1 = ix3 b r 1 := eq_ix3 _
  have e2 : ridx_main_v51 (ix3 b r k) 0 = ix2 0 k := eq_ix2 _
  have e3 : ridx_main_v51 (ix3 b r k) 1 = ix2 1 k := eq_ix2 _
  rw [e0, e1, e2, e3, v49_left, v49_right, v50_at, v50_at, v41_at, v46_at]
  rfl

/-- The reference's activation is the kernel's: the complement of the error function at a negated argument is one plus
    the error function. -/
theorem v61_at (k : Fin 128) : val_main_v61 (F := Ideal) x1 x3 x4 (ix3 b r k) = act (hid x1 x3 x4 b r k) := by
  rw [val_main_v61_apply, val_main_v56_apply, val_main_v60_apply, val_main_v59_apply, val_main_v57_apply, v54_at, val_main_v55_apply, val_main_v58_apply]
  generalize hid x1 x3 x4 b r k = x
  unfold act
  simp only [Ideal.mulf_def, Ideal.erf_def, Ideal.hostUnary_erfc_def, Ideal.hostNegf_def, Ideal.negf_def, EReal.neg_mul, Ideal.erfc_neg]
  rfl

/-- The second layer's weights, transposed. -/
theorem v62_at (k l : Fin 128) : val_main_v62 (F := Ideal) x5 (ix2 k l) = x5 (ix2 l k) := by
  rw [val_main_v62_apply]
  exact congrArg x5 (eq_ix2 _)

/-- The second layer's bias, for every frame. -/
theorem v65_at (l : Fin 128) : val_main_v65 (F := Ideal) x6 (ix3 b r l) = x6 (ix1 l) := by
  rw [val_main_v65_apply, val_main_v64_apply]
  exact congrArg x6 (eq_ix1 _)

/-- The second layer, at a frame and a coordinate. -/
theorem v66_at (l : Fin 128) : val_main_v66 (F := Ideal) x1 x3 x4 x5 x6 (ix3 b r l)
    = ∑ k : Fin 128, act (hid x1 x3 x4 b r k) * x5 (ix2 l k) + x6 (ix1 l) := by
  rw [val_main_v66_apply, val_main_v63_apply, v65_at]
  refine congrArg (fun q : EReal => q + x6 (ix1 l)) (Finset.sum_congr rfl fun k _ => ?_)
  have e0 : lidx_main_v63 (ix3 b r l) k = ix3 b r k := eq_ix3 _
  have e1 : ridx_main_v63 (ix3 b r l) k = ix2 k l := eq_ix2 _
  rw [e0, e1, v61_at, v62_at]

/-- The first 128 coordinates put together are the position row's. -/
theorem v67_left (p : Fin 128) : val_main_v67 (F := Ideal) x0 x1 x2 x3 x4 x5 x6 (ix3 b r (Fin.castAdd 128 p)) = x2 (ix2 (row (x0 (ix2 b r))) p) := by
  unfold val_main_v67
  rw [concatenate_pair_apply_left (s₁ := S16x4096x128) (s₂ := S16x4096x128) 2 _ _ _ (ix3 b r (Fin.castAdd 128 p)) rfl (ix3 b r p : S16x4096x128.Idx)
    (fun a => by match a with | ⟨0, _⟩ => rfl | ⟨1, _⟩ => rfl | ⟨2, _⟩ => rfl), take_apply]

/-- The last 128 are the second layer's. -/
theorem v67_right (l : Fin 128) : val_main_v67 (F := Ideal) x0 x1 x2 x3 x4 x5 x6 (ix3 b r (Fin.natAdd 128 l))
    = ∑ k : Fin 128, act (hid x1 x3 x4 b r k) * x5 (ix2 l k) + x6 (ix1 l) := by
  unfold val_main_v67
  rw [concatenate_pair_apply_right (s₁ := S16x4096x128) (s₂ := S16x4096x128) 2 _ _ _ (ix3 b r (Fin.natAdd 128 l)) rfl rfl (ix3 b r l : S16x4096x128.Idx)
    (fun a ha => by match a with | ⟨0, _⟩ => rfl | ⟨1, _⟩ => rfl | ⟨2, _⟩ => exact absurd rfl ha) (by show l.val + 128 = 128 + l.val; omega), v66_at]

/-- The mixing weights, transposed. -/
theorem v68_at (p o : Fin 256) : val_main_v68 (F := Ideal) x7 (ix2 p o) = x7 (ix2 o p) := by
  rw [val_main_v68_apply]
  exact congrArg x7 (eq_ix2 _)

/-- The mixing bias, for every frame. -/
theorem v71_at (o : Fin 256) : val_main_v71 (F := Ideal) x8 (ix3 b r o) = x8 (ix1 o) := by
  rw [val_main_v71_apply, val_main_v70_apply]
  exact congrArg x8 (eq_ix1 _)

/-- The reference's result for a frame, one coordinate. -/
theorem v72_at (o : Fin 256) : val_main_v72 (F := Ideal) x0 x1 x2 x3 x4 x5 x6 x7 x8 (ix3 b r o)
    = (∑ p : Fin 128, x2 (ix2 (row (x0 (ix2 b r))) p) * x7 (ix2 o (Fin.castAdd 128 p))
        + ∑ l : Fin 128, (∑ k : Fin 128, act (hid x1 x3 x4 b r k) * x5 (ix2 l k) + x6 (ix1 l)) * x7 (ix2 o (Fin.natAdd 128 l)))
      + x8 (ix1 o) := by
  rw [val_main_v72_apply, val_main_v69_apply, v71_at]
  refine congrArg (fun q : EReal => q + x8 (ix1 o)) ?_
  refine (Fin.sum_univ_add (M := EReal) (a := 128) (b := 128) _).trans ?_
  refine congrArg₂ (fun p q : EReal => p + q) (Finset.sum_congr rfl fun p _ => ?_) (Finset.sum_congr rfl fun l _ => ?_)
  · have e0 : lidx_main_v69 (ix3 b r o) (Fin.castAdd 128 p) = ix3 b r (Fin.castAdd 128 p) := eq_ix3 _
    have e1 : ridx_main_v69 (ix3 b r o) (Fin.castAdd 128 p) = ix2 (Fin.castAdd 128 p) o := eq_ix2 _
    rw [e0, e1, v67_left, v68_at]
  · have e0 : lidx_main_v69 (ix3 b r o) (Fin.natAdd 128 l) = ix3 b r (Fin.natAdd 128 l) := eq_ix3 _
    have e1 : ridx_main_v69 (ix3 b r o) (Fin.natAdd 128 l) = ix2 (Fin.natAdd 128 l) o := eq_ix2 _
    rw [e0, e1, v67_right, v68_at]

end Cert.RefRow

end
-- ==== Proof.Value.Equal.lean ====
/- Under the precondition the reference's result and the kernel's are equal, element by element. -/
module

public import proofs.«01_k».proof.Proof.Value.PreFacts
public import proofs.«01_k».proof.Proof.Value.RefRow

@[expose] public section

set_option maxRecDepth 16384

noncomputable section

namespace Cert.Equal

open Idealize.ShloMosaic Cert.Equation Cert.KernelRow Cert.KernelArray Cert.PreFacts Cert.RefTake Cert.RefRow
open Cert.ReferenceIdeal Cert.ReferenceIdeal.Read

variable {x0 : (⟨S16x4096, .f32⟩ : BufTy).Contents (Elt Ideal)} {x1 : (⟨S16x4096x768, .f32⟩ : BufTy).Contents (Elt Ideal)}
  {x2 : (⟨S4500x128, .f32⟩ : BufTy).Contents (Elt Ideal)} {x3 : (⟨S128x2, .f32⟩ : BufTy).Contents (Elt Ideal)}
  {x4 : (⟨S128, .f32⟩ : BufTy).Contents (Elt Ideal)} {x5 : (⟨S128x128, .f32⟩ : BufTy).Contents (Elt Ideal)}
  {x6 : (⟨S128, .f32⟩ : BufTy).Contents (Elt Ideal)} {x7 : (⟨S256x256, .f32⟩ : BufTy).Contents (Elt Ideal)}
  {x8 : (⟨S256, .f32⟩ : BufTy).Contents (Elt Ideal)}

/-- The position row against its mixing weights: the sines against the even ones, the cosines against the odd ones. -/
theorem position (h : SetUp x2 x3 x4 x5 x7) (t : EReal) (o : Fin 256) :
    ∑ p : Fin 128, x2 (ix2 (row t) p) * x7 (ix2 o (Fin.castAdd 128 p))
      = ∑ j : Fin 64, Ideal.sin (angle (rowWord t) (freq j)) * x7 (ix2 o ⟨2 * j.val, by omega⟩)
        + ∑ j : Fin 64, Ideal.cos (angle (rowWord t) (freq j)) * x7 (ix2 o ⟨1 + 2 * j.val, by omega⟩) := by
  refine (even_odd fun p => x2 (ix2 (row t) p) * x7 (ix2 o (Fin.castAdd 128 p))).trans ?_
  refine congrArg₂ (fun p q : EReal => p + q) (Finset.sum_congr rfl fun j _ => ?_) (Finset.sum_congr rfl fun j _ => ?_)
  · show x2 (ix2 (row t) ⟨2 * j.val, _⟩) * x7 _ = _
    rw [h.even, ofNat_row]
    rfl
  · show x2 (ix2 (row t) ⟨1 + 2 * j.val, _⟩) * x7 _ = _
    rw [h.odd, ofNat_row]
    rfl

/-- The reference's element is the kernel's. -/
theorem element (h : SetUp x2 x3 x4 x5 x7) (b : Fin 16) (r : Fin 4096) (o : Fin 256) :
    val_main_v72 (F := Ideal) x0 x1 x2 x3 x4 x5 x6 x7 x8 (ix3 b r o) = out x0 x1 x3 x4 x5 x6 x7 x8 b r o := by
  rw [v72_at, position h, layers (fun k => act (hid x1 x3 x4 b r k)) (fun l k => x5 (ix2 l k)) (fun l => x6 (ix1 l)) (fun l => x7 (ix2 o (Fin.natAdd 128 l)))
    (fun k => isReal_act (isReal_pre (h.w1 k 0) (h.w1 k 1) (h.b1 k))) h.w2 (h.wm o), ← add_assoc, add_assoc]
  rfl

/-- The reference's array is the kernel's. -/
theorem array (h : SetUp x2 x3 x4 x5 x7) :
    val_main_v72 (F := Ideal) x0 x1 x2 x3 x4 x5 x6 x7 x8 = fun i : S16x4096x256.Idx => out x0 x1 x3 x4 x5 x6 x7 x8 (i 0) (i 1) (i 2) := by
  funext i
  have e : i = ix3 (i 0) (i 1) (i 2) := eq_ix3 i
  exact (congrArg (val_main_v72 (F := Ideal) x0 x1 x2 x3 x4 x5 x6 x7 x8) e).trans (element h (i 0) (i 1) (i 2))

end Cert.Equal

end
-- ==== Proof.Value.Algebraic.lean ====
/- The value claim: under the precondition the kernel and the reference, run on real numbers from the same arguments, end
   with the same result array. -/
module

public import proofs.«01_k».proof.Defs
public import proofs.«01_k».proof.Proof.Value.Equal
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_as_set_up

@[expose] public section

noncomputable section

namespace Cert.Algebraic

open Idealize.ShloMosaic Idealize.ShloMosaic.TcCoe Idealize.SL.Sem Cert.KernelArray

variable (m : (ℓ : Loc Cert.KernelIdeal.nD Cert.KernelIdeal.τ Cert.KernelIdeal.sig) → Buf (Elt Ideal) ℓ)

/-- The result array of a memory's arguments. -/
def result (c : Dev Cert.KernelIdeal.nD) : Cert.KernelIdeal.S16x4096x256.Idx → EReal := fun i =>
  out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (i 0) (i 1) (i 2)

/-- Whatever the scratch holds at the start, the kernel's result array is that one, and the reference's is too. -/
theorem algebraic : Cert.algebraic_KernelIdeal_ReferenceIdeal_pre_inputs_as_set_up (hKernelIdeal := Cert.KernelIdeal.Gen.facts)
    (hReferenceIdeal := Cert.ReferenceIdeal.Gen.facts) (hPre_inputs_as_set_up := Cert.Pre_inputs_as_set_up.Gen.facts) := by
  intro m g m' g' hpre harg
  refine ⟨result m, ?_, ?_⟩
  · refine (θ_run Cert.KernelIdeal.defs _ _).mono (fun r h c => ?_) (Cert.KernelIdeal.Run.run_result m g)
    obtain ⟨⟨v, hv⟩, ha⟩ := h.1 c
    exact ⟨hv.trans (result_eq m v c), ha _ (by decide), ha _ (by decide), ha _ (by decide), ha _ (by decide), ha _ (by decide),
      ha _ (by decide), ha _ (by decide), ha _ (by decide), ha _ (by decide)⟩
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8⟩ := harg c
    rw [Cert.ReferenceIdeal.Read.val_main_v72_eq, h0, h1, h2, h3, h4, h5, h6, h7, h8]
    exact Cert.Equal.array (Cert.PreFacts.setUp _ _ _ _ _ _ _ _ _ (hpre c))

end Cert.Algebraic

end
-- ==== Proof.lean ====
/- The certificate. Each program's run and frame are in `Proof/Kernel` and `Proof/KernelIdeal`; the value claim's mathematics
   is in `Proof/Value`; this file assembles them. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_as_set_up
public import proofs.«01_k».proof.Proof.Kernel.Run
public import proofs.«01_k».proof.Proof.KernelIdeal.Run
public import proofs.«01_k».proof.Proof.Value.Algebraic
public import Idealize.ShloMosaic.Lib.Pipeline.Quiescent

@[expose] public section

noncomputable section

namespace Cert.Proof

open Idealize.ShloMosaic Idealize.SL.Sem

/-- The reference runs to its end, leaves its arguments as they were, and has no semaphore that could end above zero. -/
theorem frame_reference : Cert.quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2))
    (Cert.ReferenceIdeal.Value.run (F := Ideal) m g)

/-- Every claim: the kernel's frame over words, its frame and the reference's over extended reals (with and without the
    precondition), that the kernel over extended reals is the same program, and that under the precondition it and the
    reference end with equal result arrays. -/
theorem claim : Cert.Claim := ⟨Cert.Kernel.Gen.facts, Cert.KernelIdeal.Gen.facts, Cert.ReferenceIdeal.Gen.facts, Cert.Pre_inputs_as_set_up.Gen.facts,
  fun m ρ _ => Cert.Kernel.Run.frame m ρ,
  fun m ρ _ => Cert.KernelIdeal.Run.frame m ρ,
  fun m ρ _ => Cert.KernelIdeal.Run.frame m ρ,
  frame_reference, fun m ρ _ => frame_reference m ρ trivial, trivial,
  Cert.Algebraic.algebraic⟩

end Cert.Proof

end
